-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_tame_ClippedIdeal [hPre_tame_ClippedIdeal : Cert.Pre_tame_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_tame_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_tame_ClippedIdeal [hClippedIdeal : Cert.ClippedIdeal.Facts] [hPre_tame_ClippedIdeal : Cert.Pre_tame_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_tame_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_tame_KernelIdeal [hKernelIdeal : Cert.KernelIdeal.Facts] [hClippedIdeal : Cert.ClippedIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v6) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_tame_KernelIdeal : Cert.Pre_tame_KernelIdeal.Facts) (hPre_tame_ClippedIdeal : Cert.Pre_tame_ClippedIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ClippedIdeal (hClippedIdeal := hClippedIdeal)
    ∧ quiescent_ClippedIdeal_pre_tame_ClippedIdeal (hClippedIdeal := hClippedIdeal) (hPre_tame_ClippedIdeal := hPre_tame_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_tame_KernelIdeal (hKernelIdeal := hKernelIdeal) (hClippedIdeal := hClippedIdeal) (hPre_tame_KernelIdeal := hPre_tame_KernelIdeal)
-- ==== Pre_tame_ClippedIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .bf16) (main_arg1 : FVec F S1024x1024 .bf16) : IVec S_ 1 :=
  let main_v0 : FVec F S1024x1024 .bf16 := Host.absf main_arg0
  let main_v1 : FVec F S1024x1024 .bf16 := Host.absf main_arg1
  let main_v2 : FVec F S1024x1024 .f32 := (fun l r => Host.dotGeneral dot_S1024x1024_S1024x1024_S1024x1024_1_0_0_1_n_n none l r) main_v0 main_v1
  let main_cst : FVec F S_ .f32 := constant S_ .f32 0x40700000#32
  let main_v3 : FVec F S1024x1024 .f32 := broadcastInDim S1024x1024 ![] bcast_S_S1024x1024 main_cst
  let main_v4 : IVec S1024x1024 1 := cmpf .ole main_v2 main_v3
  let main_c : IVec S_ 1 := constantI S_ 1 1#1
  let main_v5 : IVec S_ 1 := (fun x v => Host.reduce IntOp.andi x v reducesTo_S1024x1024_S_d0_1 h_S_) main_v4 main_c
  main_v5
-- ==== Pre_tame_KernelIdeal.lean ====
abbrev S1024x64 : Shape := ⟨2, ![1024, 64]⟩
abbrev S64x1024 : Shape := ⟨2, ![64, 1024]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  dot_S1024x64_S64x1024_S1024x1024_1_0_0_1_n_n_wf : DotDims.WF S1024x64 S64x1024 S1024x1024 [1] [0] [0] [1] [] []

variable [Facts]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def fn {F : FTy → Type} [FloatOps F] (main_arg0 : FVec F S1024x64 .bf16) (main_arg1 : FVec F S64x1024 .bf16) : IVec S_ 1 :=
  let main_v0 : FVec F S1024x64 .bf16 := Host.absf main_arg0
  let main_v1 : FVec F S64x1024 .bf16 := Host.absf main_arg1
  let main_v2 : FVec F S1024x1024 .f32 := (fun l r => Host.dotGeneral dot_S1024x64_S64x1024_S1024x1024_1_0_0_1_n_n none l r) main_v0 main_v1
  let main_cst : FVec F S_ .f32 := constant S_ .f32 0x40700000#32
  let main_v3 : FVec F S1024x1024 .f32 := broadcastInDim S1024x1024 ![] bcast_S_S1024x1024 main_cst
  let main_v4 : IVec S1024x1024 1 := cmpf .ole main_v2 main_v3
  let main_c : IVec S_ 1 := constantI S_ 1 1#1
  let main_v5 : IVec S_ 1 := (fun x v => Host.reduce IntOp.andi x v reducesTo_S1024x1024_S_d0_1 h_S_) main_v4 main_c
  main_v5
-- ==== Kernel.lean ====
abbrev S1024x64 : Shape := ⟨2, ![1024, 64]⟩
abbrev S64x1024 : Shape := ⟨2, ![64, 1024]⟩
abbrev S1024x1024 : Shape := ⟨2, ![1024, 1024]⟩
abbrev S4x256x1024 : Shape := ⟨3, ![4, 256, 1024]⟩
abbrev S4x64x1024 : Shape := ⟨3, ![4, 64, 1024]⟩
abbrev S3 : Shape := ⟨1, ![3]⟩
abbrev S_ : Shape := ⟨0, ![]⟩
abbrev S256x1024 : Shape := ⟨2, ![256, 1024]⟩
abbrev S1x256x1024 : Shape := ⟨3, ![1, 256, 1024]⟩
abbrev S1 : Shape := ⟨1, ![1]⟩
abbrev S1x128x1024 : Shape := ⟨3, ![1, 128, 1024]⟩
abbrev S128x1024 : Shape := ⟨2, ![128, 1024]⟩
abbrev S1x64x1024 : Shape := ⟨3, ![1, 64, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x64, .bf16⟩
  | .hbm, ⟨1, _⟩ => ⟨S64x1024, .bf16⟩
  | .hbm, ⟨2, _⟩ => ⟨S1024x1024, .f32⟩
  | .local _ .vmem, ⟨0, _⟩ => ⟨S1024x64, .bf16⟩
  | .local _ .vmem, ⟨1, _⟩ => ⟨S64x1024, .bf16⟩
  | .local _ .vmem, ⟨2, _⟩ => ⟨S1024x1024, .f32⟩
  | .local _ .vmem, ⟨3, _⟩ => ⟨S1024x1024, .f32⟩
  | .local _ .vmem, ⟨4, _⟩ => ⟨S4x256x1024, .bf16⟩
  | .local _ .vmem, ⟨5, _⟩ => ⟨S4x64x1024, .bf16⟩
  | .local _ .vmem, ⟨6, _⟩ => ⟨S4x256x1024, .bf16⟩
  | _, _ => ⟨S1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_18 : BitVec 32 := 1#32
  let v38 : BitVec 32 := Scalar.muli v28 c1_i32_18
  let v39 : BitVec 32 := Scalar.addi c0_i32_19 v38
  v39.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_21 : BitVec 32 := 1#32
  let v40 : BitVec 32 := Scalar.muli v24 c1_i32_21
  let v41 : BitVec 32 := Scalar.addi c0_i32_22 v40
  v41.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_24 : BitVec 32 := 1#32
  let v42 : BitVec 32 := Scalar.muli v36 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_27 : BitVec 32 := 1#32
  let v44 : BitVec 32 := Scalar.muli v32 c1_i32_27
  let v45 : BitVec 32 := Scalar.addi c0_i32_28 v44
  v45.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32 : BitVec 32 := 256#32
  let v54 : BitVec 32 := Scalar.muli v20 c256_i32
  let v55 : Index := Scalar.indexCast v54
  let c0_35 : Index := 0#32
  ![v55.toNat, 0]
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_43 : BitVec 32 := 1#32
  let v61 : BitVec 32 := Scalar.muli v24 c1_i32_43
  let v62 : BitVec 32 := Scalar.addi c0_i32_44 v61
  v62.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_53 : BitVec 32 := 1#32
  let v71 : BitVec 32 := Scalar.muli v28 c1_i32_53
  let v72 : BitVec 32 := Scalar.addi c0_i32_54 v71
  v72.toNat
def k0_off2 (d0 : Dev nD) (c0_i32_79 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_78 : BitVec 32 := 3#32
  let v97 : BitVec 32 := Scalar.addi v20 c3_i32_78
  let v98 : BitVec 32 := Scalar.subi v97 c0_i32_79
  let c4_i32_80 : BitVec 32 := 4#32
  let v99 : BitVec 32 := Scalar.remsi v98 c4_i32_80
  let c256_i32_84 : BitVec 32 := 256#32
  let v103 : BitVec 32 := Scalar.muli v99 c256_i32_84
  let v104 : Index := Scalar.indexCast v103
  let c0_85 : Index := 0#32
  ![v104.toNat, 0]
def k0_off3 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_81 : BitVec 32 := 1#32
  let v100 : BitVec 32 := Scalar.addi v20 c1_i32_81
  let v101 : BitVec 32 := Scalar.addi v100 c0_i32_82
  let c4_i32_83 : BitVec 32 := 4#32
  let v102 : BitVec 32 := Scalar.remsi v101 c4_i32_83
  let c256_i32_86 : BitVec 32 := 256#32
  let v106 : BitVec 32 := Scalar.muli v102 c256_i32_86
  let c128_i32_87 : BitVec 32 := 128#32
  let v107 : BitVec 32 := Scalar.addi v106 c128_i32_87
  let v108 : Index := Scalar.indexCast v107
  let c0_88 : Index := 0#32
  ![v108.toNat, 0]
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_97 : BitVec 32 := 1#32
  let v119 : BitVec 32 := Scalar.muli v24 c1_i32_97
  let v120 : BitVec 32 := Scalar.addi c0_i32_98 v119
  v120.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_107 : BitVec 32 := 1#32
  let v129 : BitVec 32 := Scalar.muli v28 c1_i32_107
  let v130 : BitVec 32 := Scalar.addi c0_i32_108 v129
  v130.toNat
def k0_dev9 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_153 : BitVec 32 := 1#32
  let v177 : BitVec 32 := Scalar.muli v24 c1_i32_153
  let v178 : BitVec 32 := Scalar.addi c0_i32_154 v177
  v178.toNat
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_163 : BitVec 32 := 1#32
  let v187 : BitVec 32 := Scalar.muli v28 c1_i32_163
  let v188 : BitVec 32 := Scalar.addi c0_i32_164 v187
  v188.toNat
def k0_off4 (d0 : Dev nD) : Fin 3 → Nat :=
  let c3_209 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v239 : BitVec 32 := Scalar.muli v19 c64_i32
  let v240 : Index := Scalar.indexCast v239
  let c0_210 : Index := 0#32
  ![3, v240.toNat, 0]
def k0_dev11 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_218 : BitVec 32 := 1#32
  let v246 : BitVec 32 := Scalar.muli v32 c1_i32_218
  let v247 : BitVec 32 := Scalar.addi c0_i32_219 v246
  v247.toNat
def k0_off5 (d0 : Dev nD) (c0_i32_235 : BitVec 32) : Fin 3 → Nat :=
  let c3_241 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_234 : BitVec 32 := 3#32
  let v264 : BitVec 32 := Scalar.addi v19 c3_i32_234
  let v265 : BitVec 32 := Scalar.subi v264 c0_i32_235
  let c4_i32_236 : BitVec 32 := 4#32
  let v266 : BitVec 32 := Scalar.remsi v265 c4_i32_236
  let c64_i32_240 : BitVec 32 := 64#32
  let v270 : BitVec 32 := Scalar.muli v266 c64_i32_240
  let v271 : Index := Scalar.indexCast v270
  let c0_242 : Index := 0#32
  ![3, v271.toNat, 0]
def k0_dev12 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_250 : BitVec 32 := 1#32
  let v280 : BitVec 32 := Scalar.muli v32 c1_i32_250
  let v281 : BitVec 32 := Scalar.addi c0_i32_251 v280
  v281.toNat
def k0_dev13 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_282 : BitVec 32 := 1#32
  let v314 : BitVec 32 := Scalar.muli v32 c1_i32_282
  let v315 : BitVec 32 := Scalar.addi c0_i32_283 v314
  v315.toNat
def k0_off6 (d0 : Dev nD) : Fin 3 → Nat :=
  let c0_316 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_310 : BitVec 32 := 1#32
  let v348 : BitVec 32 := Scalar.addi v19 c1_i32_310
  let c4_i32_311 : BitVec 32 := 4#32
  let v349 : BitVec 32 := Scalar.remsi v348 c4_i32_311
  let c64_i32_315 : BitVec 32 := 64#32
  let v356 : BitVec 32 := Scalar.muli v349 c64_i32_315
  let v357 : Index := Scalar.indexCast v356
  let c0_317 : Index := 0#32
  ![0, v357.toNat, 0]
def k0_off7 (d0 : Dev nD) : Fin 3 → Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_310 : BitVec 32 := 1#32
  let v348 : BitVec 32 := Scalar.addi v19 c1_i32_310
  let c4_i32_311 : BitVec 32 := 4#32
  let v349 : BitVec 32 := Scalar.remsi v348 c4_i32_311
  let c64_i32_319 : BitVec 32 := 64#32
  let v362 : BitVec 32 := Scalar.muli v349 c64_i32_319
  let c0_i32_326 : BitVec 32 := 0#32
  ![0, v362.toNat, 0]
def k0_dev14 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_324 : BitVec 32 := 1#32
  let v363 : BitVec 32 := Scalar.muli v32 c1_i32_324
  let v364 : BitVec 32 := Scalar.addi c0_i32_325 v363
  v364.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_310 : BitVec 32 := 1#32
  let v348 : BitVec 32 := Scalar.addi v19 c1_i32_310
  let c4_i32_311 : BitVec 32 := 4#32
  let v349 : BitVec 32 := Scalar.remsi v348 c4_i32_311
  let c2_i32_328 : BitVec 32 := 2#32
  let v373 : BitVec 1 := Scalar.cmpi .slt v349 c2_i32_328
  let c4_i32_5 : BitVec 32 := 4#32
  let v20 : BitVec 32 := Scalar.remsi v2 c4_i32_5
  let c1_i32_205 : BitVec 32 := 1#32
  let v235 : BitVec 32 := Scalar.addi v20 c1_i32_205
  let c4_i32_206 : BitVec 32 := 4#32
  let v236 : BitVec 32 := Scalar.remsi v235 c4_i32_206
  let c3_i32_207 : BitVec 32 := 3#32
  let v237 : BitVec 32 := Scalar.addi v20 c3_i32_207
  let c4_i32_208 : BitVec 32 := 4#32
  let v238 : BitVec 32 := Scalar.remsi v237 c4_i32_208
  let v374 : BitVec 32 := Scalar.select v373 v236 v238
  let c256_i32_329 : BitVec 32 := 256#32
  let v375 : BitVec 32 := Scalar.muli v374 c256_i32_329
  let c64_i32_330 : BitVec 32 := 64#32
  let v376 : BitVec 32 := Scalar.muli v349 c64_i32_330
  let v377 : BitVec 32 := Scalar.addi v375 v376
  let v378 : Index := Scalar.indexCast v377
  let c0_331 : Index := 0#32
  ![v378.toNat, 0]
def k0_off9 (d0 : Dev nD) (c0_i32_340 : BitVec 32) : Fin 3 → Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v388 : BitVec 32 := Scalar.subi v19 c0_i32_340
  let c4_i32_341 : BitVec 32 := 4#32
  let v389 : BitVec 32 := Scalar.addi v388 c4_i32_341
  let c4_i32_342 : BitVec 32 := 4#32
  let v390 : BitVec 32 := Scalar.remsi v389 c4_i32_342
  let c64_i32_343 : BitVec 32 := 64#32
  let v391 : BitVec 32 := Scalar.muli v390 c64_i32_343
  let c0_i32_350 : BitVec 32 := 0#32
  ![0, v391.toNat, 0]
def k0_dev15 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_348 : BitVec 32 := 1#32
  let v392 : BitVec 32 := Scalar.muli v32 c1_i32_348
  let v393 : BitVec 32 := Scalar.addi c0_i32_349 v392
  v393.toNat
def k0_off10 (d0 : Dev nD) (c0_i32_340 : BitVec 32) : Fin 3 → Nat :=
  let c0_353 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v388 : BitVec 32 := Scalar.subi v19 c0_i32_340
  let c4_i32_341 : BitVec 32 := 4#32
  let v389 : BitVec 32 := Scalar.addi v388 c4_i32_341
  let c4_i32_342 : BitVec 32 := 4#32
  let v390 : BitVec 32 := Scalar.remsi v389 c4_i32_342
  let c64_i32_352 : BitVec 32 := 64#32
  let v402 : BitVec 32 := Scalar.muli v390 c64_i32_352
  let v403 : Index := Scalar.indexCast v402
  let c0_354 : Index := 0#32
  ![0, v403.toNat, 0]
def k0_off11 (d0 : Dev nD) (c0_i32_340 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v388 : BitVec 32 := Scalar.subi v19 c0_i32_340
  let c4_i32_341 : BitVec 32 := 4#32
  let v389 : BitVec 32 := Scalar.addi v388 c4_i32_341
  let c4_i32_342 : BitVec 32 := 4#32
  let v390 : BitVec 32 := Scalar.remsi v389 c4_i32_342
  let c2_i32_355 : BitVec 32 := 2#32
  let v407 : BitVec 1 := Scalar.cmpi .slt v390 c2_i32_355
  let c4_i32_5 : BitVec 32 := 4#32
  let v20 : BitVec 32 := Scalar.remsi v2 c4_i32_5
  let c1_i32_205 : BitVec 32 := 1#32
  let v235 : BitVec 32 := Scalar.addi v20 c1_i32_205
  let c4_i32_206 : BitVec 32 := 4#32
  let v236 : BitVec 32 := Scalar.remsi v235 c4_i32_206
  let c3_i32_207 : BitVec 32 := 3#32
  let v237 : BitVec 32 := Scalar.addi v20 c3_i32_207
  let c4_i32_208 : BitVec 32 := 4#32
  let v238 : BitVec 32 := Scalar.remsi v237 c4_i32_208
  let v408 : BitVec 32 := Scalar.select v407 v236 v238
  let c256_i32_356 : BitVec 32 := 256#32
  let v409 : BitVec 32 := Scalar.muli v408 c256_i32_356
  let c64_i32_357 : BitVec 32 := 64#32
  let v410 : BitVec 32 := Scalar.muli v390 c64_i32_357
  let v411 : BitVec 32 := Scalar.addi v409 v410
  let v412 : Index := Scalar.indexCast v411
  let c0_358 : Index := 0#32
  ![v412.toNat, 0]
def k0_dev16 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_375 : BitVec 32 := 1#32
  let v426 : BitVec 32 := Scalar.muli v32 c1_i32_375
  let v427 : BitVec 32 := Scalar.addi c0_i32_376 v426
  v427.toNat
def k0_dev17 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_401 : BitVec 32 := 1#32
  let v459 : BitVec 32 := Scalar.muli v24 c1_i32_401
  let v460 : BitVec 32 := Scalar.addi c0_i32_402 v459
  v460.toNat
def k0_dev18 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_411 : BitVec 32 := 1#32
  let v469 : BitVec 32 := Scalar.muli v28 c1_i32_411
  let v470 : BitVec 32 := Scalar.addi c0_i32_412 v469
  v470.toNat
def k0_dev19 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_448 : BitVec 32 := 1#32
  let v507 : BitVec 32 := Scalar.muli v24 c1_i32_448
  let v508 : BitVec 32 := Scalar.addi c0_i32_449 v507
  v508.toNat
def k0_dev20 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_458 : BitVec 32 := 1#32
  let v517 : BitVec 32 := Scalar.muli v28 c1_i32_458
  let v518 : BitVec 32 := Scalar.addi c0_i32_459 v517
  v518.toNat
def k0_off12 (d0 : Dev nD) (c0_i32_464 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v527 : BitVec 32 := Scalar.subi v20 c0_i32_464
  let c4_i32_465 : BitVec 32 := 4#32
  let v528 : BitVec 32 := Scalar.addi v527 c4_i32_465
  let c4_i32_466 : BitVec 32 := 4#32
  let v529 : BitVec 32 := Scalar.remsi v528 c4_i32_466
  let c256_i32_472 : BitVec 32 := 256#32
  let v535 : BitVec 32 := Scalar.muli v529 c256_i32_472
  let v536 : Index := Scalar.indexCast v535
  let c0_473 : Index := 0#32
  ![v536.toNat, 0]
def k0_off13 (d0 : Dev nD) (c0_i32_467 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v530 : BitVec 32 := Scalar.addi v20 c0_i32_467
  let c4_i32_468 : BitVec 32 := 4#32
  let v531 : BitVec 32 := Scalar.remsi v530 c4_i32_468
  let c256_i32_476 : BitVec 32 := 256#32
  let v541 : BitVec 32 := Scalar.muli v531 c256_i32_476
  let c128_i32_477 : BitVec 32 := 128#32
  let v542 : BitVec 32 := Scalar.addi v541 c128_i32_477
  let v543 : Index := Scalar.indexCast v542
  let c0_478 : Index := 0#32
  ![v543.toNat, 0]
def k0_dev21 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_503 : BitVec 32 := 1#32
  let v561 : BitVec 32 := Scalar.muli v24 c1_i32_503
  let v562 : BitVec 32 := Scalar.addi c0_i32_504 v561
  v562.toNat
def k0_dev22 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_513 : BitVec 32 := 1#32
  let v571 : BitVec 32 := Scalar.muli v28 c1_i32_513
  let v572 : BitVec 32 := Scalar.addi c0_i32_514 v571
  v572.toNat
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdeal.Mesh.lean ====
/-
# The mesh, the channels and the semaphore cells

The sixteen devices form a 4 × 4 mesh: device `4 z + p` stands in plane `z` at place `p`. This module names the
neighbours of a device, the eighteen transfers every device issues (its channels, in the order it issues them),
the semaphore cells of those transfers, and reads the printed device numbers and offsets as arithmetic on `z`
and `p`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Cert.KernelIdeal Cert.KernelIdeal.Gen

open Idealize.ShloMosaic
open Idealize.ShloMosaic.TcCoe

/-! ## Devices -/

/-- The device in plane `z` at place `p`, both taken modulo 4. -/
def dv (z p : ℕ) : Dev nD := ⟨4 * (z % 4) + p % 4, by show _ < 16; omega⟩

/-- The plane of a device. -/
def zc (c : Dev nD) : ℕ := c.val / 4
/-- The place of a device within its plane. -/
def pc (c : Dev nD) : ℕ := c.val % 4

theorem zc_lt (c : Dev nD) : zc c < 4 := by have h : c.val < 16 := c.isLt; unfold zc; omega
theorem pc_lt (c : Dev nD) : pc c < 4 := by unfold pc; omega
theorem zc_dv (z p : ℕ) : zc (dv z p) = z % 4 := by show (4 * (z % 4) + p % 4) / 4 = _; omega
theorem pc_dv (z p : ℕ) : pc (dv z p) = p % 4 := by show (4 * (z % 4) + p % 4) % 4 = _; omega
theorem dv_zc_pc (c : Dev nD) : dv (zc c) (pc c) = c :=
  Fin.ext (by have h : c.val < 16 := c.isLt; show 4 * (c.val / 4 % 4) + c.val % 4 % 4 = c.val; omega)
theorem dv_congr {z z' p p' : ℕ} (hz : z % 4 = z' % 4) (hp : p % 4 = p' % 4) : dv z p = dv z' p' :=
  Fin.ext (by show 4 * (z % 4) + p % 4 = 4 * (z' % 4) + p' % 4; omega)

/-- The right neighbour in the plane's ring, -/
def rt (c : Dev nD) : Dev nD := dv (zc c) (pc c + 1)
/-- the left one, -/
def lf (c : Dev nD) : Dev nD := dv (zc c) (pc c + 3)
/-- the device at the same place in the next plane, -/
def zn (c : Dev nD) : Dev nD := dv (zc c + 1) (pc c)
/-- and in the previous one. -/
def zp (c : Dev nD) : Dev nD := dv (zc c + 3) (pc c)

theorem lf_rt (c : Dev nD) : lf (rt c) = c := by revert c; decide +kernel
theorem rt_lf (c : Dev nD) : rt (lf c) = c := by revert c; decide +kernel
theorem zp_zn (c : Dev nD) : zp (zn c) = c := by revert c; decide +kernel
theorem zn_zp (c : Dev nD) : zn (zp c) = c := by revert c; decide +kernel

theorem zc_rt (c : Dev nD) : zc (rt c) = zc c := by revert c; decide +kernel
theorem zc_lf (c : Dev nD) : zc (lf c) = zc c := by revert c; decide +kernel
theorem pc_zn (c : Dev nD) : pc (zn c) = pc c := by revert c; decide +kernel
theorem pc_zp (c : Dev nD) : pc (zp c) = pc c := by revert c; decide +kernel
theorem pc_rt (c : Dev nD) : pc (rt c) = (pc c + 1) % 4 := by revert c; decide +kernel
theorem pc_lf (c : Dev nD) : pc (lf c) = (pc c + 3) % 4 := by revert c; decide +kernel
theorem zc_zn (c : Dev nD) : zc (zn c) = (zc c + 1) % 4 := by revert c; decide +kernel
theorem zc_zp (c : Dev nD) : zc (zp c) = (zc c + 3) % 4 := by revert c; decide +kernel

/-! The printed device numbers: the four signals, then the transfers in program order. -/

theorem dev1_eq (c : Dev nD) : (⟨k0_dev1 c, k0_dev1_lt c⟩ : Dev nD) = lf c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = zp c := by revert c; decide +kernel
theorem dev4_eq (c : Dev nD) : (⟨k0_dev4 c, k0_dev4_lt c⟩ : Dev nD) = zn c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lf c := by revert c; decide +kernel
theorem dev7_eq (c : Dev nD) : (⟨k0_dev7 c, k0_dev7_lt c⟩ : Dev nD) = rt c := by revert c; decide +kernel
theorem dev8_eq (c : Dev nD) : (⟨k0_dev8 c, k0_dev8_lt c⟩ : Dev nD) = lf c := by revert c; decide +kernel
theorem dev9_eq (c : Dev nD) : (⟨k0_dev9 c, k0_dev9_lt c⟩ : Dev nD) = rt c := by revert c; decide +kernel
theorem dev10_eq (c : Dev nD) : (⟨k0_dev10 c, k0_dev10_lt c⟩ : Dev nD) = lf c := by revert c; decide +kernel
theorem dev11_eq (c : Dev nD) : (⟨k0_dev11 c, k0_dev11_lt c⟩ : Dev nD) = zn c := by revert c; decide +kernel
theorem dev12_eq (c : Dev nD) : (⟨k0_dev12 c, k0_dev12_lt c⟩ : Dev nD) = zn c := by revert c; decide +kernel
theorem dev13_eq (c : Dev nD) : (⟨k0_dev13 c, k0_dev13_lt c⟩ : Dev nD) = zn c := by revert c; decide +kernel
theorem dev14_eq (c : Dev nD) : (⟨k0_dev14 c, k0_dev14_lt c⟩ : Dev nD) = zn c := by revert c; decide +kernel
theorem dev15_eq (c : Dev nD) : (⟨k0_dev15 c, k0_dev15_lt c⟩ : Dev nD) = zn c := by revert c; decide +kernel
theorem dev16_eq (c : Dev nD) : (⟨k0_dev16 c, k0_dev16_lt c⟩ : Dev nD) = zn c := by revert c; decide +kernel
theorem dev17_eq (c : Dev nD) : (⟨k0_dev17 c, k0_dev17_lt c⟩ : Dev nD) = rt c := by revert c; decide +kernel
theorem dev18_eq (c : Dev nD) : (⟨k0_dev18 c, k0_dev18_lt c⟩ : Dev nD) = lf c := by revert c; decide +kernel
theorem dev19_eq (c : Dev nD) : (⟨k0_dev19 c, k0_dev19_lt c⟩ : Dev nD) = rt c := by revert c; decide +kernel
theorem dev20_eq (c : Dev nD) : (⟨k0_dev20 c, k0_dev20_lt c⟩ : Dev nD) = lf c := by revert c; decide +kernel
theorem dev21_eq (c : Dev nD) : (⟨k0_dev21 c, k0_dev21_lt c⟩ : Dev nD) = rt c := by revert c; decide +kernel
theorem dev22_eq (c : Dev nD) : (⟨k0_dev22 c, k0_dev22_lt c⟩ : Dev nD) = lf c := by revert c; decide +kernel

/-! ## Offsets -/

/-- The first row of the output block that slot `j` of a device at place `p` holds: its slots 0 and 1 lie in the
    quarter after its own, 2 and 3 in the quarter before. -/
def outBase (p j : ℕ) : ℕ := (if j < 2 then (p + 1) % 4 else (p + 3) % 4) * 256 + j * 64

theorem off1_eq (c : Dev nD) : k0_off1 c = ![256 * pc c, 0] := by revert c; decide +kernel
theorem off2_eq (c : Dev nD) (r : Fin 3) : k0_off2 c (BitVec.ofNat 32 r.val) = ![256 * ((pc c + 3 - r.val) % 4), 0] := by
  revert c r; decide +kernel
theorem off3_eq (c : Dev nD) (r : Fin 3) : k0_off3 c (BitVec.ofNat 32 r.val) = ![256 * ((pc c + r.val + 1) % 4) + 128, 0] := by
  revert c r; decide +kernel
theorem off4_eq (c : Dev nD) : k0_off4 c = ![3, 64 * zc c, 0] := by revert c; decide +kernel
theorem off5_eq (c : Dev nD) (r : Fin 3) : k0_off5 c (BitVec.ofNat 32 r.val) = ![3, 64 * ((zc c + 3 - r.val) % 4), 0] := by
  revert c r; decide +kernel
theorem off6_eq (c : Dev nD) : k0_off6 c = ![0, 64 * ((zc c + 1) % 4), 0] := by revert c; decide +kernel
theorem off7_eq (c : Dev nD) : k0_off7 c = ![0, 64 * ((zc c + 1) % 4), 0] := by revert c; decide +kernel
theorem off8_eq (c : Dev nD) : k0_off8 c = ![outBase (pc c) ((zc c + 1) % 4), 0] := by revert c; decide +kernel
theorem off9_eq (c : Dev nD) (r : Fin 2) : k0_off9 c (BitVec.ofNat 32 r.val) = ![0, 64 * ((zc c + 4 - r.val) % 4), 0] := by
  revert c r; decide +kernel
theorem off10_eq (c : Dev nD) (r : Fin 3) : k0_off10 c (BitVec.ofNat 32 r.val) = ![0, 64 * ((zc c + 4 - r.val) % 4), 0] := by
  revert c r; decide +kernel
theorem off11_eq (c : Dev nD) (r : Fin 3) :
    k0_off11 c (BitVec.ofNat 32 r.val) = ![outBase (pc c) ((zc c + 4 - r.val) % 4), 0] := by
  revert c r; decide +kernel
theorem off12_eq (c : Dev nD) (r : Fin 3) : k0_off12 c (BitVec.ofNat 32 r.val) = ![256 * ((pc c + 4 - r.val) % 4), 0] := by
  revert c r; decide +kernel
theorem off13_eq (c : Dev nD) (r : Fin 3) : k0_off13 c (BitVec.ofNat 32 r.val) = ![256 * ((pc c + r.val) % 4) + 128, 0] := by
  revert c r; decide +kernel

/-! ## Channels -/

/-- The transfers a device issues. `r1 s`, `l1 s`: step `s` of the reduce-scatter round the plane's ring, the upper
    half rows going right, the lower left. `g2 s`, `g3 s`: step `s` of the reduce-scatter, and of the all-gather,
    through the planes. `r4 s`, `l4 s`: step `s` of the all-gather round the ring. -/
inductive Ch
  | r1 (s : Fin 3) | l1 (s : Fin 3) | g2 (s : Fin 3) | g3 (s : Fin 3) | r4 (s : Fin 3) | l4 (s : Fin 3)
  deriving DecidableEq

/-- All channels, in program order. -/
def chans : List Ch :=
  [.r1 0, .l1 0, .r1 1, .l1 1, .r1 2, .l1 2, .g2 0, .g2 1, .g2 2, .g3 0, .g3 1, .g3 2,
    .r4 0, .l4 0, .r4 1, .l4 1, .r4 2, .l4 2]

instance : Fintype Ch := Fintype.ofList chans (by rintro (s | s | s | s | s | s) <;> revert s <;> decide +kernel)

namespace Ch

/-- The channel's place in the order the program issues and awaits its transfers. -/
def ord : Ch → ℕ
  | r1 s => 2 * s.val | l1 s => 2 * s.val + 1 | g2 s => 6 + s.val | g3 s => 9 + s.val
  | r4 s => 12 + 2 * s.val | l4 s => 13 + 2 * s.val

theorem ord_inj {j k : Ch} (h : j.ord = k.ord) : j = k := by
  have : ∀ j k : Ch, j.ord = k.ord → j = k := by decide +kernel
  exact this j k h
theorem ord_lt (j : Ch) : j.ord < 18 := by revert j; decide +kernel

/-- Whom device `c`'s transfer on channel `j` goes to. -/
def dst : Ch → Dev nD → Dev nD
  | r1 _, c => rt c | l1 _, c => lf c | g2 _, c => zn c | g3 _, c => zn c | r4 _, c => rt c | l4 _, c => lf c
/-- Whose transfer on channel `j` comes to device `c`. -/
def src : Ch → Dev nD → Dev nD
  | r1 _, c => lf c | l1 _, c => rt c | g2 _, c => zp c | g3 _, c => zp c | r4 _, c => lf c | l4 _, c => rt c

theorem src_dst (j : Ch) (c : Dev nD) : j.src (j.dst c) = c := by
  cases j <;> first | exact lf_rt c | exact rt_lf c | exact zp_zn c
theorem dst_src (j : Ch) (c : Dev nD) : j.dst (j.src c) = c := by
  cases j <;> first | exact rt_lf c | exact lf_rt c | exact zn_zp c

end Ch

/-! ## Semaphores and cells -/

theorem inb_sem (s : Fin 3) : ∀ a, (![s.val] : Fin 1 → ℕ) a + S1.size a ≤ S3.size a := by revert s; decide +kernel

/-- Element `s` of an array of three DMA semaphores, as the program forms it. -/
abbrev sem3 (a : DmaSems sig S3) (s : Fin 3) : DmaSem sig :=
  ((a.slice (Rect.unit (s := S3) ![s.val] S1.size (inb_sem s))).squeeze S_ squeezes_S1_S_).sem

/-- A channel's send semaphore, -/
def ssem : Ch → DmaSem sig
  | .r1 s => sem3 cc0_scratch4 s | .l1 s => sem3 cc0_scratch6 s | .g2 s => sem3 cc0_scratch8 s
  | .g3 s => sem3 cc0_scratch10 s | .r4 s => sem3 cc0_scratch12 s | .l4 s => sem3 cc0_scratch14 s
/-- and its receive semaphore. -/
def rsem : Ch → DmaSem sig
  | .r1 s => sem3 cc0_scratch5 s | .l1 s => sem3 cc0_scratch7 s | .g2 s => sem3 cc0_scratch9 s
  | .g3 s => sem3 cc0_scratch11 s | .r4 s => sem3 cc0_scratch13 s | .l4 s => sem3 cc0_scratch15 s

/-- The barrier semaphore. -/
abbrev barS : Sem sig := (SemArray.scalar (sig.barrier 0 rfl) : Sems sig S_).sem

/-- The kernel's own semaphores: per channel the send (`false`) and the receive (`true`) one. -/
def osem : Ch × Bool → SemLoc sig
  | (j, false) => .dma (ssem j)
  | (j, true) => .dma (rsem j)

/-- All of them: `none` is the barrier's. -/
def csem : Option (Ch × Bool) → SemLoc sig
  | none => .reg barS
  | some k => osem k

abbrev kcell (ck : Dev nD × Option (Ch × Bool)) : GSem nD τ sig := ((ck.1 : Thread nD τ), csem ck.2)

abbrev barCell (c : Dev nD) : GSem nD τ sig := ((c : Thread nD τ), .reg barS)
abbrev sendCell (j : Ch) (c : Dev nD) : GSem nD τ sig := ((c : Thread nD τ), .dma (ssem j))
abbrev recvCell (j : Ch) (c : Dev nD) : GSem nD τ sig := ((c : Thread nD τ), .dma (rsem j))

theorem ownSemFacts : Pipeline.OwnSemFacts cfg0.spec osem := by decide +kernel

theorem csem_injective : Function.Injective csem := by
  intro a b h
  cases a with
  | none => cases b with
    | none => rfl
    | some k => obtain ⟨j, x⟩ := k; cases x <;> cases h
  | some k => cases b with
    | none => obtain ⟨j, x⟩ := k; cases x <;> cases h
    | some k' => exact congrArg some (ownSemFacts.inj h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The units a transfer on a channel counts. -/
def amt : Ch → ℕ
  | .r1 _ => (cc0_scratch1 : Ref sig .tc).dmaCredit S128x1024 .bf16
  | .l1 _ => (cc0_scratch1 : Ref sig .tc).dmaCredit S128x1024 .bf16
  | .g2 _ => (cc0_scratch2 : Ref sig .tc).dmaCredit S64x1024 .bf16
  | .g3 _ => (cc0_scratch3 : Ref sig .tc).dmaCredit S64x1024 .bf16
  | .r4 _ => (cc0_scratch3 : Ref sig .tc).dmaCredit S128x1024 .bf16
  | .l4 _ => (cc0_scratch3 : Ref sig .tc).dmaCredit S128x1024 .bf16

theorem amt_pos (j : Ch) : 0 < amt j := by
  cases j <;> exact sig.dmaCredit_pos _ _ _ _ _ (by decide)

end Cert.KernelIdeal.Run

end
-- ==== Proof.KernelIdeal.Contents.lean ====
/-
# What the buffers hold

The contents every device's buffers reach, as closed functions of the sixteen devices' operand blocks: the partial
product, the four slots of the ring's reduce-scatter (stored and received), the four slots of the reduce-scatter
through the planes, the gathered slots, and the output.
-/
module

public import proofs.«01_k».proof.Proof.KernelIdeal.Mesh

@[expose] public section

noncomputable section

namespace Cert.KernelIdeal.Run

open Cert.KernelIdeal Cert.KernelIdeal.Gen
open Idealize.ShloMosaic
open Idealize.ShloMosaic.TcCoe

variable {F : FTy → Type} [FloatOps F]

/-- The index of a shape with the given coordinates, each taken modulo its extent. -/
def ix {s : Shape} (hs : ∀ a, 0 < s.size a) (v : Fin s.rank → ℕ) : s.Idx := fun a => ⟨v a % s.size a, Nat.mod_lt _ (hs a)⟩

theorem ix_val {s : Shape} (hs : ∀ a, 0 < s.size a) (v : Fin s.rank → ℕ) (a : Fin s.rank) : ((ix hs v a : Fin _) : ℕ) = v a % s.size a := rfl

/-- An index is the one with its own coordinates. -/
theorem eq_ix {s : Shape} (hs : ∀ a, 0 < s.size a) (v : Fin s.rank → ℕ) (i : s.Idx) (h : ∀ a, (i a).val = v a) : i = ix hs v :=
  funext fun a => Fin.ext (by rw [ix_val, ← h a, Nat.mod_eq_of_lt (i a).isLt])

/-- Entry (row, column) of a 1024 × 1024 buffer. -/
abbrev at2 (a b : ℕ) : S1024x1024.Idx := ix (s := S1024x1024) (by decide) ![a, b]
/-- Entry (slot, row, column) of a buffer of four slots of 256 rows, -/
abbrev at4 (s a b : ℕ) : S4x256x1024.Idx := ix (s := S4x256x1024) (by decide) ![s, a, b]
/-- of one of four slots of 64 rows, -/
abbrev at4' (s a b : ℕ) : S4x64x1024.Idx := ix (s := S4x64x1024) (by decide) ![s, a, b]
/-- of a single slot of 256 rows, -/
abbrev at1 (a b : ℕ) : S1x256x1024.Idx := ix (s := S1x256x1024) (by decide) ![0, a, b]
/-- of a single slot of 64 rows, -/
abbrev at1' (a b : ℕ) : S1x64x1024.Idx := ix (s := S1x64x1024) (by decide) ![0, a, b]
/-- and of a plain block of 64 rows. -/
abbrev at64 (a b : ℕ) : S64x1024.Idx := ix (s := S64x1024) (by decide) ![a, b]

/-- The operands' blocks, device by device. -/
structure Blocks (F : FTy → Type) where
  x : Dev nD → Vec F S1024x64 .bf16
  w : Dev nD → Vec F S64x1024 .bf16

variable (B : Blocks F)

/-- The device's own product. -/
def accV (c : Dev nD) : Vec F S1024x1024 .f32 := k0_pay1 (B.x c) (B.w c)

/-- 256 rows of it, -/
def rows256 (f : Vec F S1024x1024 .f32) (b : ℕ) : Vec F S256x1024 .f32 := fun y => f (at2 (b + (y (0 : Fin 2)).val) (y (1 : Fin 2)).val)
/-- and 128. -/
def rows128 (f : Vec F S1024x1024 .f32) (b : ℕ) : Vec F S128x1024 .f32 := fun y => f (at2 (b + (y (0 : Fin 2)).val) (y (1 : Fin 2)).val)

/-- The upper half rows of one slot over the lower ones of another. -/
def halves (u v : Vec F S1x256x1024 .bf16) : Vec F S1x256x1024 .bf16 := fun y => if (y (1 : Fin 3)).val < 128 then u y else v y

/-- Slot `s` of the ring's reduce-scatter as device `c` stores it: its own quarter of the product at first, then what
    came from the left and from the right plus its own rows of that quarter. -/
def a1 : ℕ → Dev nD → Vec F S1x256x1024 .bf16
  | 0, c => k0_pay2 (rows256 (accV B c) (256 * pc c))
  | s + 1, c => k0_pay3 (rows128 (accV B c) (256 * ((pc c + 3 - s) % 4))) (rows128 (accV B c) (256 * ((pc c + s + 1) % 4) + 128))
      (halves (a1 s (lf c)) (a1 s (rt c)))

/-- The four stored slots together; -/
def A1 (c : Dev nD) : Vec F S4x256x1024 .bf16 := fun i => a1 B (i (0 : Fin 3)).val c (at1 (i (1 : Fin 3)).val (i (2 : Fin 3)).val)
/-- and as received, before the device adds its own. -/
def R1 (c : Dev nD) : Vec F S4x256x1024 .bf16 := fun i =>
  halves (a1 B ((i (0 : Fin 3)).val - 1) (lf c)) (a1 B ((i (0 : Fin 3)).val - 1) (rt c)) (at1 (i (1 : Fin 3)).val (i (2 : Fin 3)).val)

/-- 64 rows of the last slot. -/
def part64 (c : Dev nD) (b : ℕ) : Vec F S1x64x1024 .bf16 := fun y => A1 B c (at4 3 (b + (y (1 : Fin 3)).val) (y (2 : Fin 3)).val)

/-- Slot `s` of the reduce-scatter through the planes as device `c` stores it. -/
def a2 : ℕ → Dev nD → Vec F S1x64x1024 .bf16
  | 0, c => k0_pay6 (part64 B c (64 * zc c))
  | s + 1, c => k0_pay7 (a2 s (zp c)) (part64 B c (64 * ((zc c + 3 - s) % 4)))

def A2 (c : Dev nD) : Vec F S4x64x1024 .bf16 := fun i => a2 B (i (0 : Fin 3)).val c (at1' (i (1 : Fin 3)).val (i (2 : Fin 3)).val)
def R2 (c : Dev nD) : Vec F S4x64x1024 .bf16 := fun i => a2 B ((i (0 : Fin 3)).val - 1) (zp c) (at1' (i (1 : Fin 3)).val (i (2 : Fin 3)).val)

/-- The 64 finished rows of device `c`, -/
def fin32 (c : Dev nD) : Vec F S64x1024 .f32 := k0_pay10 (a2 B 3 c)
/-- and narrowed, as they are passed on. -/
def fin16 (c : Dev nD) : Vec F S1x64x1024 .bf16 := k0_pay12 (k0_pay11 (a2 B 3 c))

/-- The place in the ring the rows in slot `s` came from: `s` steps to the left for the upper half rows, to the right
    for the lower. -/
def org (p s row : ℕ) : ℕ := if row < 128 then p + 3 * s else p + s

/-- The gathered slots of device `c`. -/
def A4 (c : Dev nD) : Vec F S4x256x1024 .bf16 := fun i =>
  fin16 B (dv ((i (1 : Fin 3)).val / 64 + 3) (org (pc c) (i (0 : Fin 3)).val (i (1 : Fin 3)).val)) (at1' ((i (1 : Fin 3)).val % 64) (i (2 : Fin 3)).val)

/-- The slot that holds row `R` of the output. -/
def slotOf (p R : ℕ) : ℕ := if R % 256 < 128 then (p + 5 - R / 256) % 4 else (R / 256 + 5 - p) % 4

/-- The output of device `c`: its own finished rows, and the gathered ones widened. -/
def outV (c : Dev nD) : Vec F S1024x1024 .f32 := fun i =>
  if slotOf (pc c) (i (0 : Fin 2)).val = 0 ∧ (i (0 : Fin 2)).val % 256 / 64 = (zc c + 1) % 4 then
    fin32 B c (at64 ((i (0 : Fin 2)).val % 64) (i (1 : Fin 2)).val)
  else FloatOps.extf .f32 bitsLt_bf16_f32 (A4 B c (at4 (slotOf (pc c) (i (0 : Fin 2)).val) ((i (0 : Fin 2)).val % 256) (i (1 : Fin 2)).val))

end Cert.KernelIdeal.Run

end
-- ==== Proof.KernelIdeal.Schedule.lean ====
/-
# The schedule

Every semaphore cell runs one round. A transfer's send cell gives back what was lent to it, its receive cell hands
over what landed; a barrier cell hands a device the buffers, on its neighbours, that its own transfers will land in.
The levels order the waits: the barrier first, then the receive cells in program order.
-/
module

public import proofs.«01_k».proof.Proof.KernelIdeal.Contents

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-- The rounds' camera (a duty is one of four numbers), and with it the launch's. -/
abbrev UB := URounds (GSem nD τ sig) (Fin 4)
abbrev UU := UR sig nD τ × UB
local notation "𝕄" => MT nD τ sig Unit (Elt F) ℕ UU ℕ

abbrev EP : Emb (UR sig nD τ) 𝕄 := embL
abbrev ER : Emb UB 𝕄 := embR

/-! ## Parts of buffers -/

/-- The box of a shape from `off`, of extents `size`. -/
def box {s : Shape} (off size : Fin s.rank → ℕ) : Finset s.Idx := Finset.univ.filter fun i => ∀ a, off a ≤ (i a).val ∧ (i a).val < off a + size a

theorem mem_box {s : Shape} {off size : Fin s.rank → ℕ} {i : s.Idx} : i ∈ box off size ↔ ∀ a, off a ≤ (i a).val ∧ (i a).val < off a + size a := by
  simp [box]

theorem unit_set {s : Shape} {off off' size : Fin s.rank → ℕ} (h : off = off') (inb : ∀ a, off a + size a ≤ s.size a) :
    (Rect.unit (s := s) off size inb).set = box off' size := by
  subst h; ext i; rw [Rect.mem_set_unit, mem_box]

/-- Rows `b … b + n` of slot `s`, in a buffer of four slots of 256 rows, -/
abbrev sl (s b n : ℕ) : Finset S4x256x1024.Idx := box (s := S4x256x1024) ![s, b, 0] ![1, n, 1024]
/-- slot `s` of one of four slots of 64 rows, -/
abbrev sl' (s : ℕ) : Finset S4x64x1024.Idx := box (s := S4x64x1024) ![s, 0, 0] ![1, 64, 1024]
/-- and rows `b … b + n` of a 1024 × 1024 buffer. -/
abbrev rws (b n : ℕ) : Finset S1024x1024.Idx := box (s := S1024x1024) ![b, 0] ![n, 1024]

theorem mem_sl {s b n : ℕ} {i : S4x256x1024.Idx} :
    i ∈ sl s b n ↔ (i (0 : Fin 3)).val = s ∧ b ≤ (i (1 : Fin 3)).val ∧ (i (1 : Fin 3)).val < b + n := by
  rw [mem_box]
  have h2 : (i (2 : Fin 3)).val < 1024 := (i (2 : Fin 3)).isLt
  constructor
  · intro h
    have h0 := h (0 : Fin 3); have h1 := h (1 : Fin 3)
    exact ⟨by have := h0.1; have := h0.2; simp at *; omega, h1.1, h1.2⟩
  · rintro ⟨h0, h1, h1'⟩ a
    fin_cases a
    · exact ⟨le_of_eq h0.symm, by show (i (0 : Fin 3)).val < s + 1; omega⟩
    · exact ⟨h1, h1'⟩
    · exact ⟨Nat.zero_le _, by show (i (2 : Fin 3)).val < 0 + 1024; omega⟩

theorem mem_sl' {s : ℕ} {i : S4x64x1024.Idx} : i ∈ sl' s ↔ (i (0 : Fin 3)).val = s := by
  rw [mem_box]
  have h1 : (i (1 : Fin 3)).val < 64 := (i (1 : Fin 3)).isLt
  have h2 : (i (2 : Fin 3)).val < 1024 := (i (2 : Fin 3)).isLt
  constructor
  · intro h
    have h0 := h (0 : Fin 3)
    have := h0.1; have := h0.2; simp at *; omega
  · rintro h0 a
    fin_cases a
    · exact ⟨le_of_eq h0.symm, by show (i (0 : Fin 3)).val < s + 1; omega⟩
    · exact ⟨Nat.zero_le _, by show (i (1 : Fin 3)).val < 0 + 64; omega⟩
    · exact ⟨Nat.zero_le _, by show (i (2 : Fin 3)).val < 0 + 1024; omega⟩

theorem mem_rws {b n : ℕ} {i : S1024x1024.Idx} : i ∈ rws b n ↔ b ≤ (i (0 : Fin 2)).val ∧ (i (0 : Fin 2)).val < b + n := by
  rw [mem_box]
  have h2 : (i (1 : Fin 2)).val < 1024 := (i (1 : Fin 2)).isLt
  constructor
  · intro h; exact h (0 : Fin 2)
  · rintro h0 a
    fin_cases a
    · exact h0
    · exact ⟨Nat.zero_le _, by show (i (1 : Fin 2)).val < 0 + 1024; omega⟩

/-- Part `S` of a device's ring buffer, of its plane buffer and of its gather buffer, at share `q` and contents `f`. -/
def own1 (c : Dev nD) (S : Finset S4x256x1024.Idx) (q : PosShare TreeShare) (f : Vec F S4x256x1024 .bf16) : sProp 𝕄 :=
  ((c : Thread nD τ).loc cc0_scratch1) ↦[S]{q} f
def own2 (c : Dev nD) (S : Finset S4x64x1024.Idx) (q : PosShare TreeShare) (f : Vec F S4x64x1024 .bf16) : sProp 𝕄 :=
  ((c : Thread nD τ).loc cc0_scratch2) ↦[S]{q} f
def own4 (c : Dev nD) (S : Finset S4x256x1024.Idx) (q : PosShare TreeShare) (f : Vec F S4x256x1024 .bf16) : sProp 𝕄 :=
  ((c : Thread nD τ).loc cc0_scratch3) ↦[S]{q} f

instance own1_storable (c : Dev nD) (S) (q) (f) : BI.Storable (upEmb : UEmb _ 𝕄) (own1 (F := F) c S q f) := by unfold own1; infer_instance
instance own2_storable (c : Dev nD) (S) (q) (f) : BI.Storable (upEmb : UEmb _ 𝕄) (own2 (F := F) c S q f) := by unfold own2; infer_instance
instance own4_storable (c : Dev nD) (S) (q) (f) : BI.Storable (upEmb : UEmb _ 𝕄) (own4 (F := F) c S q f) := by unfold own4; infer_instance

/-! ## What the cells hand over -/

variable (B : Blocks F)

/-- What a transfer on channel `j` from device `c` is lent: the rows it reads. -/
def sendPay : Ch → Dev nD → sProp 𝕄
  | .r1 s, c => own1 c (sl s.val 0 128) fullShare (A1 B c)
  | .l1 s, c => own1 c (sl s.val 128 128) fullShare (A1 B c)
  | .g2 s, c => own2 c (sl' s.val) fullShare (A2 B c)
  | .g3 s, c => own4 c (sl 0 (64 * ((zc c + 5 - s.val) % 4)) 64) fullShare.right.left (A4 B c)
  | .r4 s, c => own4 c (sl s.val 0 128) fullShare.left (A4 B c)
  | .l4 s, c => own4 c (sl s.val 128 128) fullShare.left (A4 B c)

/-- What the transfer on channel `j` that comes to device `c` leaves there. -/
def recvPay : Ch → Dev nD → sProp 𝕄
  | .r1 s, c => own1 c (sl (s.val + 1) 0 128) fullShare (R1 B c)
  | .l1 s, c => own1 c (sl (s.val + 1) 128 128) fullShare (R1 B c)
  | .g2 s, c => own2 c (sl' (s.val + 1)) fullShare (R2 B c)
  | .g3 s, c => own4 c (sl 0 (64 * ((zc c + 4 - s.val) % 4)) 64) fullShare (A4 B c)
  | .r4 s, c => own4 c (sl (s.val + 1) 0 128) fullShare (A4 B c)
  | .l4 s, c => own4 c (sl (s.val + 1) 128 128) fullShare (A4 B c)

/-- The rows it lands in, before. -/
def land : Ch → Dev nD → sProp 𝕄
  | .r1 s, c => iprop(∃ f, own1 (F := F) c (sl (s.val + 1) 0 128) fullShare f)
  | .l1 s, c => iprop(∃ f, own1 (F := F) c (sl (s.val + 1) 128 128) fullShare f)
  | .g2 s, c => iprop(∃ f, own2 (F := F) c (sl' (s.val + 1)) fullShare f)
  | .g3 s, c => iprop(∃ f, own4 (F := F) c (sl 0 (64 * ((zc c + 4 - s.val) % 4)) 64) fullShare f)
  | .r4 s, c => iprop(∃ f, own4 (F := F) c (sl (s.val + 1) 0 128) fullShare f)
  | .l4 s, c => iprop(∃ f, own4 (F := F) c (sl (s.val + 1) 128 128) fullShare f)

instance sendPay_storable (j : Ch) (c : Dev nD) : BI.Storable (upEmb : UEmb _ 𝕄) (sendPay B j c) := by
  cases j <;> (unfold sendPay; infer_instance)
instance recvPay_storable (j : Ch) (c : Dev nD) : BI.Storable (upEmb : UEmb _ 𝕄) (recvPay B j c) := by
  cases j <;> (unfold recvPay; infer_instance)
instance land_storable (j : Ch) (c : Dev nD) : BI.Storable (upEmb : UEmb _ 𝕄) (land (F := F) j c) := by
  cases j <;> (unfold land; infer_instance)

/-- Which of a device's neighbours channel `j` goes to: right, left, next plane. -/
def Ch.grp : Ch → Fin 4
  | .r1 _ => 0 | .l1 _ => 1 | .g2 _ => 2 | .g3 _ => 2 | .r4 _ => 0 | .l4 _ => 1

/-- What the signal of duty `d` hands device `c`: the rows its transfers to that neighbour land in. -/
def barPay (c : Dev nD) (d : Fin 4) : sProp 𝕄 := bigSep (Finset.univ.filter fun j : Ch => j.grp = d) fun j => land (F := F) j (j.dst c)

instance barPay_storable (c : Dev nD) (d : Fin 4) : BI.Storable (upEmb : UEmb _ 𝕄) (barPay (F := F) c d) := by unfold barPay; infer_instance

/-! ## The schedule -/

def duIx : Option (Dev nD × Option (Ch × Bool)) → Finset (Fin 4)
  | some (_, none) => Finset.univ
  | some (_, some _) => {0}
  | none => ∅
def amIx : Option (Dev nD × Option (Ch × Bool)) → ℕ
  | some (_, some (j, _)) => amt j
  | _ => 1
def paIx (d : Fin 4) : Option (Dev nD × Option (Ch × Bool)) → sProp 𝕄
  | some (c, none) => barPay c d
  | some (c, some (j, false)) => sendPay B j c
  | some (c, some (j, true)) => recvPay B j c
  | none => iprop(emp)

/-- One round: a barrier cell's four duties of one unit each, a transfer's cell the one duty of its amount. -/
def sched : Rounds.Schedule (GSem nD τ sig) (Fin 4) 𝕄 where
  duties g r := if r = 0 then duIx (Function.partialInv kcell g) else ∅
  unitless _ := False
  amount g _ _ := amIx (Function.partialInv kcell g)
  payload g _ d := paIx B d (Function.partialInv kcell g)
  amount_pos g _ _ _ := by
    rcases Function.partialInv kcell g with _ | ⟨c, _ | ⟨j, b⟩⟩
    · exact Nat.one_pos
    · exact Nat.one_pos
    · exact amt_pos j

instance sched_payload_storable (g : GSem nD τ sig) (r : ℕ) (d : Fin 4) :
    BI.Storable (upEmb : UEmb _ 𝕄) ((sched B).payload g r d) := by
  show BI.Storable upEmb (paIx B d (Function.partialInv kcell g))
  rcases Function.partialInv kcell g with _ | ⟨c, _ | ⟨j, _ | _⟩⟩ <;> (unfold paIx; infer_instance)

theorem inv_kcell (ck : Dev nD × Option (Ch × Bool)) : Function.partialInv kcell (kcell ck) = some ck :=
  Function.partialInv_left kcell_injective ck
theorem inv_bar (c : Dev nD) : Function.partialInv kcell (barCell c) = some (c, none) := inv_kcell (c, none)
theorem inv_send (j : Ch) (c : Dev nD) : Function.partialInv kcell (sendCell j c) = some (c, some (j, false)) := inv_kcell (c, some (j, false))
theorem inv_recv (j : Ch) (c : Dev nD) : Function.partialInv kcell (recvCell j c) = some (c, some (j, true)) := inv_kcell (c, some (j, true))

theorem duties_bar (c : Dev nD) : (sched B).duties (barCell c) 0 = Finset.univ := by dsimp only [sched]; rw [inv_bar, if_pos rfl]; rfl
theorem duties_send (j : Ch) (c : Dev nD) : (sched B).duties (sendCell j c) 0 = {0} := by dsimp only [sched]; rw [inv_send, if_pos rfl]; rfl
theorem duties_recv (j : Ch) (c : Dev nD) : (sched B).duties (recvCell j c) 0 = {0} := by dsimp only [sched]; rw [inv_recv, if_pos rfl]; rfl
theorem duties_later (g : GSem nD τ sig) : ∀ r, 1 ≤ r → (sched B).duties g r = ∅ :=
  fun r hr => by dsimp only [sched]; rw [if_neg (by omega)]

theorem amount_bar (c : Dev nD) (d : Fin 4) : (sched B).amount (barCell c) 0 d = 1 := by dsimp only [sched]; rw [inv_bar]; rfl
theorem amount_send (j : Ch) (c : Dev nD) (d : Fin 4) : (sched B).amount (sendCell j c) 0 d = amt j := by dsimp only [sched]; rw [inv_send]; rfl
theorem amount_recv (j : Ch) (c : Dev nD) (d : Fin 4) : (sched B).amount (recvCell j c) 0 d = amt j := by dsimp only [sched]; rw [inv_recv]; rfl

theorem expect_bar (c : Dev nD) : (sched B).expect (barCell c) 0 = 4 := by
  unfold Schedule.expect Schedule.amountOf
  rw [duties_bar, Finset.sum_congr rfl fun d _ => amount_bar B c d]; rfl
theorem expect_send (j : Ch) (c : Dev nD) : (sched B).expect (sendCell j c) 0 = amt j := by
  unfold Schedule.expect Schedule.amountOf; rw [duties_send, Finset.sum_singleton, amount_send]
theorem expect_recv (j : Ch) (c : Dev nD) : (sched B).expect (recvCell j c) 0 = amt j := by
  unfold Schedule.expect Schedule.amountOf; rw [duties_recv, Finset.sum_singleton, amount_recv]

theorem payload_bar (c : Dev nD) (d : Fin 4) : (sched B).payload (barCell c) 0 d = barPay c d := by dsimp only [sched]; rw [inv_bar]; rfl
theorem payload_send (j : Ch) (c : Dev nD) (d : Fin 4) : (sched B).payload (sendCell j c) 0 d = sendPay B j c := by
  dsimp only [sched]; rw [inv_send]; rfl
theorem payload_recv (j : Ch) (c : Dev nD) (d : Fin 4) : (sched B).payload (recvCell j c) 0 d = recvPay B j c := by
  dsimp only [sched]; rw [inv_recv]; rfl

/-- All four signals together hand a device the rows every transfer of its lands in. -/
theorem rest_bar (c : Dev nD) : bigSep ((sched B).duties (barCell c) 0 \ ∅) (fun d => (sched B).payload (barCell c) 0 d)
    = bigSep Finset.univ fun j : Ch => land (F := F) j (j.dst c) := by
  rw [Finset.sdiff_empty, duties_bar, bigSep_congr fun d _ => payload_bar B c d]
  unfold barPay
  rw [← BI.bigSep_biUnion_eq Finset.univ (fun d : Fin 4 => Finset.univ.filter fun j : Ch => j.grp = d)
    (fun j : Ch => land (F := F) j (j.dst c)) fun j _ j' _ hne => Finset.disjoint_filter.mpr fun i _ hi hi' => hne (hi.symm.trans hi')]
  congr 1
  ext j; simp
theorem rest_send (j : Ch) (c : Dev nD) :
    bigSep ((sched B).duties (sendCell j c) 0 \ ∅) (fun d => (sched B).payload (sendCell j c) 0 d) = sendPay B j c := by
  rw [Finset.sdiff_empty, duties_send, bigSep_singleton, payload_send]
theorem rest_recv (j : Ch) (c : Dev nD) :
    bigSep ((sched B).duties (recvCell j c) 0 \ ∅) (fun d => (sched B).payload (recvCell j c) 0 d) = recvPay B j c := by
  rw [Finset.sdiff_empty, duties_recv, bigSep_singleton, payload_recv]

/-! ## Dues and levels -/

/-- What device `c` owes once its first `n` transfers are under way: the receive credit of the others. -/
def dues (c : Dev nD) (n : ℕ) : CellTallies nD τ sig Unit :=
  ∑ j ∈ Finset.univ.filter (fun j : Ch => n ≤ j.ord), tallyAt (recvCell j (j.dst c)) () (amt j)

/-- At the start it owes its four neighbours a signal each as well, summed so that the first signal peels the last
    summand. -/
def O₃ (c : Dev nD) : CellTallies nD τ sig Unit := dues c 0 + tallyAt (barCell (zn c)) () 1
def O₂ (c : Dev nD) : CellTallies nD τ sig Unit := O₃ c + tallyAt (barCell (zp c)) () 1
def O₁ (c : Dev nD) : CellTallies nD τ sig Unit := O₂ c + tallyAt (barCell (rt c)) () 1
def O₀ (c : Dev nD) : CellTallies nD τ sig Unit := O₁ c + tallyAt (barCell (lf c)) () 1

theorem dues_step (c : Dev nD) (j : Ch) : dues c j.ord = dues c (j.ord + 1) + tallyAt (recvCell j (j.dst c)) () (amt j) := by
  unfold dues
  have h : (Finset.univ.filter fun k : Ch => j.ord ≤ k.ord) = insert j (Finset.univ.filter fun k : Ch => j.ord + 1 ≤ k.ord) := by
    ext k; simp only [Finset.mem_filter, Finset.mem_univ, true_and, Finset.mem_insert]
    constructor
    · intro h
      rcases Nat.eq_or_lt_of_le h with h | h
      · exact .inl (Ch.ord_inj h.symm)
      · exact .inr h
    · rintro (rfl | h)
      · exact le_rfl
      · omega
  rw [h, Finset.sum_insert (by simp), add_comm]

theorem dues_last (c : Dev nD) : dues c 18 = 0 := by
  unfold dues
  rw [Finset.filter_eq_empty_iff.mpr fun j _ => by have := j.ord_lt; omega, Finset.sum_empty]

theorem dues_pos {c : Dev nD} {n : ℕ} {g : GSem nD τ sig} {u : Unit} (h : 0 < dues c n g u) : ∃ j : Ch, n ≤ j.ord ∧ g = recvCell j (j.dst c) := by
  unfold dues at h
  rw [Finset.sum_apply, Finsupp.finset_sum_apply] at h
  obtain ⟨j, hj, hne⟩ := Finset.exists_ne_zero_of_sum_ne_zero h.ne'
  refine ⟨j, (Finset.mem_filter.mp hj).2, ?_⟩
  by_contra hg
  exact hne (by rw [tallyAt_apply, if_neg fun h' => hg h'.1])

def L (g : GSem nD τ sig) : Finset Unit := if g.1.2 = .tc then {()} else ∅
def lvIx : Option (Dev nD × Option (Ch × Bool)) → ℕ
  | some (_, none) => 1
  | some (_, some (j, true)) => j.ord + 2
  | _ => 0
/-- Barrier cells at 1, the receive cell of channel `j` at two more than its place in program order, all others at 0. -/
def lv (g : GSem nD τ sig) (_ : Unit) : ℕ := lvIx (Function.partialInv kcell g)

theorem lv_bar (c : Dev nD) : lv (barCell c) () = 1 := by unfold lv; rw [inv_bar]; rfl
theorem lv_recv (j : Ch) (c : Dev nD) : lv (recvCell j c) () = j.ord + 2 := by unfold lv; rw [inv_recv]; rfl

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

/-- A device that owes receive credit of channels from `n` on may wait on a cell of a lower level. -/
theorem mayWait_dues (c : Dev nD) (sm : SemLoc sig) (n : ℕ) (h : lv ((c : Thread nD τ), sm) () < n + 2) :
    (levAts L lv : sProp 𝕄) ⊢ MayWait (c : Thread nD τ) sm () (dues c n) :=
  MayOwe.of_cut (L := L) (lev := lv) (lv ((c : Thread nD τ), sm) ()) (fun p hp => by rw [Finset.mem_singleton.mp hp]; exact mem_L _ _ _)
    (fun g u hg => by obtain ⟨j, -, rfl⟩ := dues_pos hg; exact mem_L _ _ _)
    (fun p hp => by rw [Finset.mem_singleton.mp hp])
    (fun g u hg => by obtain ⟨j, hj, rfl⟩ := dues_pos hg; rw [lv_recv]; omega)

theorem O₀_pos {c : Dev nD} {g : GSem nD τ sig} {u : Unit} (h : 0 < O₀ c g u) :
    (∃ j : Ch, g = recvCell j (j.dst c)) ∨ ∃ d : Dev nD, g = barCell d := by
  unfold O₀ O₁ O₂ O₃ at h
  simp only [Pi.add_apply, Finsupp.add_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩), if_neg (fun h' => hn.2 ⟨_, h'.1⟩)] at h
  obtain ⟨j, -, hj⟩ := dues_pos (c := c) (n := 0) (g := g) (u := u) (by omega)
  exact hn.1 ⟨j, hj⟩

/-- The staging transfers' cells lie below everything owed. -/
theorem mayWait_stage (c : Dev nD) (q : DmaSem sig) (hq : ∀ k, osem k ≠ .dma q) (O : CellTallies nD τ sig Unit) (hO : O = O₀ c ∨ O = 0) :
    (levAts L lv : sProp 𝕄) ⊢ MayWait (c : Thread nD τ) (.dma q) () O := by
  have hl : lv ((c : Thread nD τ), .dma q) () = 0 := by
    unfold lv
    have : Function.partialInv kcell ((c : Thread nD τ), SemLoc.dma q) = none := by
      unfold Function.partialInv
      rw [dif_neg]
      rintro ⟨⟨d, _ | k⟩, h⟩
      · exact absurd (congrArg Prod.snd h) (by intro h'; cases h')
      · exact hq k (congrArg Prod.snd h)
    rw [this]; rfl
  rcases hO with rfl | rfl
  · refine MayOwe.of_cut (L := L) (lev := lv) 0 (fun p hp => by rw [Finset.mem_singleton.mp hp]; exact mem_L _ _ _)
      (fun g u hg => by rcases O₀_pos hg with ⟨j, rfl⟩ | ⟨d, rfl⟩ <;> exact mem_L _ _ _)
      (fun p hp => by rw [Finset.mem_singleton.mp hp, hl])
      (fun g u hg => by
        rcases O₀_pos hg with ⟨j, rfl⟩ | ⟨d, rfl⟩
        · rw [lv_recv]; omega
        · rw [lv_bar]; omega)
  · rw [MayWait_zero]; iintro -; iempintro

end Cert.KernelIdeal.Run

end
-- ==== Proof.KernelIdeal.Steps.lean ====
/-
# The steps of the protocol

A device's protocol state counts the transfers it has issued (`n`), the receives it has awaited (`r`) and its own
transfers it has seen leave (`w`), all in program order. Issuing the next transfer, awaiting the next receive and
awaiting the next departure each advance one count; what they take and give besides is the channel's payload.
-/
module

public import proofs.«01_k».proof.Proof.KernelIdeal.Schedule

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

abbrev 𝒱₀ : Variants := Variants.none

variable (B : Blocks F)

/-- Every cell's invariant, under the names `K`, and that it has reached round 0: for everyone to keep. -/
def records (K : Dev nD × Option (Ch × Bool) → ℕ) : sProp 𝕄 :=
  iprop((bigSep Finset.univ fun ck : Dev nD × Option (Ch × Bool) => cellInv ER (sched B) (K ck) (kcell ck))
    ∗ bigSep Finset.univ fun ck : Dev nD × Option (Ch × Bool) => reached ER (kcell ck) 0)

instance records_persistent (K : Dev nD × Option (Ch × Bool) → ℕ) : BI.Persistent (records B K) := by unfold records; infer_instance

theorem records_at (K : Dev nD × Option (Ch × Bool) → ℕ) (ck : Dev nD × Option (Ch × Bool)) :
    records B K ⊢ iprop(cellInv ER (sched B) (K ck) (kcell ck) ∗ reached ER (kcell ck) 0) := by
  unfold records
  exact BI.sep_mono (bigSep_elim (Finset.mem_univ ck)) (bigSep_elim (Finset.mem_univ ck))

variable (K : Dev nD × Option (Ch × Bool) → ℕ)

/-- A channel's share of the state of device `c`: until issued, the rows it lands in and the two tokens; once issued and
    until seen to leave, the send credit; and the two cells, open or closed. -/
def chSt (n r w : ℕ) (c : Dev nD) (j : Ch) : sProp 𝕄 :=
  iprop((if n ≤ j.ord then iprop(land (F := F) j (j.dst c) ∗ dutyTok ER (recvCell j (j.dst c)) 0 0 ∗ dutyTok ER (sendCell j c) 0 0) else iprop(emp))
    ∗ (if j.ord < n ∧ w ≤ j.ord then cred (tallyAt (sendCell j c) () (amt j)) else iprop(emp))
    ∗ (if w ≤ j.ord then atPos ER (sendCell j c) 0 ∅ 0 else semVal (sendCell j c) 0)
    ∗ (if r ≤ j.ord then iprop(atPos ER (recvCell j c) 0 ∅ 0 ∗ cred (tallyAt (recvCell j c) () (amt j))) else semVal (recvCell j c) 0))

def St (n r w : ℕ) (c : Dev nD) : sProp 𝕄 :=
  iprop(records B K ∗ levAts L lv ∗ (∃ W, owes (c : Thread nD τ) (dues c n) W) ∗ bigSep Finset.univ (chSt (F := F) n r w c))

theorem chSt_issue {n r w : ℕ} {c : Dev nD} {j k : Ch} (hn : n = j.ord) (hk : k ≠ j) : chSt (F := F) n r w c k = chSt (n + 1) r w c k := by
  have h : k.ord ≠ n := fun h => hk (Ch.ord_inj (h.trans hn))
  unfold chSt
  have e1 : n ≤ k.ord ↔ n + 1 ≤ k.ord := by omega
  have e2 : (k.ord < n ∧ w ≤ k.ord) ↔ (k.ord < n + 1 ∧ w ≤ k.ord) := by omega
  simp only [e1, e2]
theorem chSt_recv {n r w : ℕ} {c : Dev nD} {j k : Ch} (hr : r = j.ord) (hk : k ≠ j) : chSt (F := F) n r w c k = chSt n (r + 1) w c k := by
  have h : k.ord ≠ r := fun h => hk (Ch.ord_inj (h.trans hr))
  unfold chSt
  have e1 : r ≤ k.ord ↔ r + 1 ≤ k.ord := by omega
  simp only [e1]
theorem chSt_left {n r w : ℕ} {c : Dev nD} {j k : Ch} (hw : w = j.ord) (hk : k ≠ j) : chSt (F := F) n r w c k = chSt n r (w + 1) c k := by
  have h : k.ord ≠ w := fun h => hk (Ch.ord_inj (h.trans hw))
  unfold chSt
  have e1 : w ≤ k.ord ↔ w + 1 ≤ k.ord := by omega
  simp only [e1]

/-- The state split at channel `j`. -/
theorem bigSep_at (Φ : Ch → sProp 𝕄) (j : Ch) : bigSep Finset.univ Φ = iprop(Φ j ∗ bigSep (Finset.univ.erase j) Φ) := BI.bigSep_erase (Finset.mem_univ j)

/-- Issuing the next transfer: the rows it reads are lent. -/
theorem wp_issue (c : Dev nD) (j : Ch) {n r w : ℕ} (hn : n = j.ord) (hw : w ≤ j.ord) (d : Dev nD) (hd : d = j.dst c)
    {s : Shape} {e : EltTy} {src dst : Memref sig .tc .vmem s e} {sS sR : DmaSem sig} (hsS : sS = ssem j) (hsR : sR = rsem j)
    {hsc : (dst : Memref sig (Dev.tc d : Thread nD τ).2.kind .vmem s e).view.ref.isScScratch = false}
    {hsrc : src.view.WordExact} {hdst : dst.view.WordExact}
    {hsem : DmaTarget.Typed .vmem (.dma sR) (.remote (Dev.tc d : Thread nD τ) (dst : Memref sig (Dev.tc d : Thread nD τ).2.kind .vmem s e) (.dma sS) hsc)}
    {α : Type} {Q : α → sProp 𝕄} {k : PUnit → Prog (TpuEff nD τ sig (Elt F) Λ₀ .tc) α}
    (q : PosShare TreeShare) (fs : Buf (Elt F) (src.view.loc (c : Thread nD τ)))
    (hN : dst.view.dmaCredit = amt j)
    (hs : (src.view.loc (c : Thread nD τ) ↦[src.view.set]{q} fs : sProp 𝕄) = sendPay B j c)
    (hl : land (F := F) j (j.dst c) ⊢ iprop(∃ fd, dst.view.loc (j.dst c : Thread nD τ) ↦[dst.view.set]{fullShare} fd))
    (hp : ∀ fd, (dst.view.loc (j.dst c : Thread nD τ) ↦[dst.view.set]{fullShare} dst.view.write (Elt F) fd (src.view.read (Elt F) fs) Finset.univ : sProp 𝕄)
      ⊢ recvPay B j (j.dst c)) :
    iprop(St B K n r w c ∗ sendPay B j c)
      ⊢ iprop((St B K (n + 1) r w c -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) k) Q) := by
  subst hd hsS hsR hn
  unfold St
  rw [bigSep_at (chSt j.ord r w c) j, bigSep_at (chSt (j.ord + 1) r w c) j,
    bigSep_congr fun k hk => chSt_issue (F := F) (r := r) (w := w) (c := c) rfl (Finset.ne_of_mem_erase hk)]
  unfold chSt
  rw [if_pos le_rfl, if_neg (show ¬(j.ord < j.ord ∧ w ≤ j.ord) by omega), if_neg (show ¬(j.ord + 1 ≤ j.ord) by omega),
    if_pos (show j.ord < j.ord + 1 ∧ w ≤ j.ord by omega), ← hs]
  iintro ⟨⟨#HR, #Hlev, ⟨%W, HO⟩, ⟨⟨Hland, Htr, Hts⟩, -, Hsnd, Hrcv⟩, Hrest⟩, Hsrc⟩ Hk
  ihave Hfd := hl $$ Hland
  icases Hfd with ⟨%fd, Hdst⟩
  ihave Hrs := (records_at B K (c, some (j, false))) $$ HR
  icases Hrs with ⟨#HIs, #HRs⟩
  ihave Hrr := (records_at B K (j.dst c, some (j, true))) $$ HR
  icases Hrr with ⟨#HIr, #HRr⟩
  iapply (Rounds.wp_send_pointsTo 𝒱₀ ER (sched B) (c : Thread nD τ) none (κ₁ := K (c, some (j, false))) (κ₂ := K (j.dst c, some (j, true)))
    (r₁ := 0) (r₂ := 0) (d₁ := 0) (d₂ := 0) (fd := fd) (fs := fs) (q := q)
    (by rw [duties_send]; exact Finset.mem_singleton_self _) (by rw [duties_recv]; exact Finset.mem_singleton_self _)
    () () (amt j) (show dst.view.amount (.dma (rsem j)) = amt j from hN) (amount_send B j c 0) (amount_recv B j (j.dst c) 0) (dues c (j.ord + 1)) (dues_step c j) (W := W)
    (by rw [payload_send, hs]) (by rw [payload_recv]; exact hp fd)) $$ [HO Hsrc Hdst Htr Hts]
  · isplitr; · iexact HIs
    isplitr; · iexact HIr
    isplitl [Hsrc]; · iexact Hsrc
    isplitl [Hdst]; · iexact Hdst
    isplitl [HO]; · iexact HO
    isplitl [Hts]; · iexact Hts
    isplitr; · iexact HRs
    isplitl [Htr]; · iexact Htr
    iexact HRr
  iintro ⟨Hc, HO⟩
  iapply Hk
  isplitr; · iexact HR
  isplitr; · iexact Hlev
  isplitl [HO]; · iexists W; iexact HO
  isplitr [Hrest]
  · isplitr; · iempintro
    isplitl [Hc]; · iexact Hc
    isplitl [Hsnd]; · iexact Hsnd
    iexact Hrcv
  iexact Hrest

/-- Awaiting the next receive: what landed comes. -/
theorem wp_recv (c : Dev nD) (j : Ch) {n r w : ℕ} (hr : r = j.ord) (hn : j.ord < n)
    {s s' : Shape} {e e' : EltTy} {src : Memref sig .tc .vmem s' e'} {dst : Memref sig .tc .vmem s e} {sR : DmaSem sig} (hsR : sR = rsem j)
    {hsrc : src.view.WordExact} {hdst : dst.view.WordExact}
    {α : Type} {Q : α → sProp 𝕄} {k : PUnit → Prog (TpuEff nD τ sig (Elt F) Λ₀ .tc) α}
    (hN : dst.view.dmaCredit = amt j) :
    (St B K n r w c)
      ⊢ iprop(((St B K n (r + 1) w c ∗ recvPay B j c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR hr
  unfold St
  rw [bigSep_at (chSt n j.ord w c) j, bigSep_at (chSt n (j.ord + 1) w c) j,
    bigSep_congr fun k hk => chSt_recv (F := F) (n := n) (w := w) (c := c) rfl (Finset.ne_of_mem_erase hk)]
  unfold chSt
  rw [if_pos (le_refl j.ord), if_neg (show ¬(j.ord + 1 ≤ j.ord) by omega)]
  iintro ⟨#HR, #Hlev, ⟨%W, HO⟩, ⟨H1, H2, H3, Hat, Hc⟩, Hrest⟩ Hk
  ihave Hrr := (records_at B K (c, some (j, true))) $$ HR
  icases Hrr with ⟨#HIr, -⟩
  iapply (Rounds.wp_wait_rest_token 𝒱₀ ER (sched B) (c : Thread nD τ) none (κ := K (c, some (j, true)))
    (wpE_waitDma2_eq 𝒱₀ (c : Thread nD τ) none Set.univ) (Set.mem_univ _) () (O := dues c n) (W := W) (R := 0) (m := 0) (T := ∅)
    (by rw [Nat.zero_add, hN]; exact (expect_recv B j c).symm)) $$ [Hc HO Hat]
  · isplitr; · iexact HIr
    isplitl [Hc]; · rw [hN]; iexact Hc
    isplitl [HO]; · iexact HO
    isplitr; · iapply (mayWait_dues c (.dma (rsem j)) n (by rw [lv_recv]; omega)); iexact Hlev
    iexact Hat
  iintro ⟨HO, Hat, -, Hpay⟩
  ihave Hp := (Entails.of_eq (rest_recv B j c)) $$ Hpay
  imod (Rounds.cell_close ER (sched B) (Set.mem_univ (K (c, some (j, true)))) (fun h => h) (R := 0 + 1) (duties_later B _)) $$ [Hat] with Hz
  · isplitr; · iexact HIr
    iexact Hat
  iapply Hk
  isplitr [Hp]
  · isplitr; · iexact HR
    isplitr; · iexact Hlev
    isplitl [HO]; · iexists _; iexact HO
    isplitr [Hrest]
    · isplitl [H1]; · iexact H1
      isplitl [H2]; · iexact H2
      isplitl [H3]; · iexact H3
      iexact Hz
    iexact Hrest
  iexact Hp

/-- Awaiting the next departure, once everything has been issued: the rows lent come back. -/
theorem wp_left (c : Dev nD) (j : Ch) {r w : ℕ} (hw : w = j.ord)
    {s s' : Shape} {e e' : EltTy} {src : Memref sig .tc .vmem s' e'} {dst : Memref sig .tc .vmem s e} {sS : DmaSem sig} (hsS : sS = ssem j)
    {hsrc : src.view.WordExact} {hdst : dst.view.WordExact}
    {α : Type} {Q : α → sProp 𝕄} {k : PUnit → Prog (TpuEff nD τ sig (Elt F) Λ₀ .tc) α}
    (hN : dst.view.dmaCredit = amt j) :
    (St B K 18 r w c)
      ⊢ iprop(((St B K 18 r (w + 1) c ∗ sendPay B j c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS hw
  unfold St
  rw [bigSep_at (chSt 18 r j.ord c) j, bigSep_at (chSt 18 r (j.ord + 1) c) j,
    bigSep_congr fun k hk => chSt_left (F := F) (n := 18) (r := r) (c := c) rfl (Finset.ne_of_mem_erase hk), dues_last]
  unfold chSt
  rw [if_pos (le_refl j.ord), if_neg (show ¬(j.ord + 1 ≤ j.ord) by omega),
    if_pos (show j.ord < 18 ∧ j.ord ≤ j.ord from ⟨j.ord_lt, le_rfl⟩), if_neg (show ¬(j.ord < 18 ∧ j.ord + 1 ≤ j.ord) by omega)]
  iintro ⟨#HR, #Hlev, ⟨%W, HO⟩, ⟨H1, Hc, Hat, H4⟩, Hrest⟩ Hk
  ihave Hrr := (records_at B K (c, some (j, false))) $$ HR
  icases Hrr with ⟨#HIr, -⟩
  iapply (Rounds.wp_wait_rest_token 𝒱₀ ER (sched B) (c : Thread nD τ) none (κ := K (c, some (j, false)))
    (wpE_waitDma2_eq 𝒱₀ (c : Thread nD τ) none Set.univ) (Set.mem_univ _) () (O := 0) (W := W) (R := 0) (m := 0) (T := ∅)
    (by rw [Nat.zero_add, hN]; exact (expect_send B j c).symm)) $$ [Hc HO Hat]
  · isplitr; · iexact HIr
    isplitl [Hc]; · rw [hN]; iexact Hc
    isplitl [HO]; · iexact HO
    isplitr; · rw [MayWait_zero]; iempintro
    iexact Hat
  iintro ⟨HO, Hat, -, Hpay⟩
  ihave Hp := (Entails.of_eq (rest_send B j c)) $$ Hpay
  imod (Rounds.cell_close ER (sched B) (Set.mem_univ (K (c, some (j, false)))) (fun h => h) (R := 0 + 1) (duties_later B _)) $$ [Hat] with Hz
  · isplitr; · iexact HIr
    iexact Hat
  iapply Hk
  isplitr [Hp]
  · isplitr; · iexact HR
    isplitr; · iexact Hlev
    isplitl [HO]; · iexists _; iexact HO
    isplitr [Hrest]
    · isplitl [H1]; · iexact H1
      isplitr; · iempintro
      isplitl [Hz]; · iexact Hz
      iexact H4
    iexact Hrest
  iexact Hp

/-! ## The rows of a transfer, as the program names them: a rectangle of a whole buffer, an axis dropped -/

/-- Their elements; -/
theorem part_set (b : Ref sig .tc) (r : Rect b.ty.shape) {s : Shape} (h : s.numel = r.shape.numel) :
    (((View.whole b).slice r).reshape s h).set = r.set := by rw [View.set_reshape, View.set_slice_whole]

/-- and a transfer from one such part of a buffer to one of another device's, which the same contents describe on both
    sides. -/
theorem part_landed (b : Ref sig .tc) (r r' : Rect b.ty.shape) {s : Shape} (h : s.numel = r.shape.numel) (h' : s.numel = r'.shape.numel)
    (d : Dev nD) (fs fd g : b.ty.Contents (Elt F))
    (hg : ∀ y : s.Idx, g (r'.emb (Shape.reshapeEquiv h' y)) = fs (r.emb (Shape.reshapeEquiv h y))) :
    ((((View.whole b).slice r').reshape s h').loc (d : Thread nD τ) ↦[(((View.whole b).slice r').reshape s h').set]{fullShare}
        (((View.whole b).slice r').reshape s h').write (Elt F) fd ((((View.whole b).slice r).reshape s h).read (Elt F) fs) Finset.univ : sProp 𝕄)
      = ((d : Thread nD τ).loc b ↦[r'.set]{fullShare} g) := by
  rw [← part_set b r' h']
  refine pointsTo_congr fun i hi => ?_
  obtain ⟨y, -, rfl⟩ := Finset.mem_map.mp hi
  rw [View.write_emb_of_mem _ _ (Finset.mem_univ _), View.read_apply, cast_cast]
  exact (hg y).symm

end Cert.KernelIdeal.Run

end
-- ==== Proof.KernelIdeal.Ops.lean ====
/-
# The operations of the body

What a load reads and a store leaves, buffer by buffer, in the rows' own coordinates; and the transfers channel by
channel, where what lands is seen to be what the receiver's contents say.
-/
module

public import proofs.«01_k».proof.Proof.KernelIdeal.Steps

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

/-- The device's program from here on satisfies `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The elements of a rectangle of rows -/

theorem emb4 {s b n : ℕ} {off : Fin 3 → ℕ} (ho : off = ![s, b, 0]) (inb : ∀ a, off a + (⟨3, ![1, n, 1024]⟩ : Shape).size a ≤ S4x256x1024.size a)
    (y : (⟨3, ![1, n, 1024]⟩ : Shape).Idx) :
    (Rect.unit (s := S4x256x1024) off (⟨3, ![1, n, 1024]⟩ : Shape).size inb).emb y = at4 s (b + (y (1 : Fin 3)).val) (y (2 : Fin 3)).val := by
  subst ho
  refine eq_ix _ _ _ fun a => ?_
  rw [Rect.emb_apply]
  have h0 : (y (0 : Fin 3)).val < 1 := (y (0 : Fin 3)).isLt
  fin_cases a
  · show s + 1 * (y (0 : Fin 3)).val = s; omega
  · show b + 1 * (y (1 : Fin 3)).val = b + (y (1 : Fin 3)).val; omega
  · show 0 + 1 * (y (2 : Fin 3)).val = (y (2 : Fin 3)).val; omega

theorem emb4' {s : ℕ} {off : Fin 3 → ℕ} (ho : off = ![s, 0, 0]) (inb : ∀ a, off a + S1x64x1024.size a ≤ S4x64x1024.size a) (y : S1x64x1024.Idx) :
    (Rect.unit (s := S4x64x1024) off S1x64x1024.size inb).emb y = at4' s (y (1 : Fin 3)).val (y (2 : Fin 3)).val := by
  subst ho
  refine eq_ix _ _ _ fun a => ?_
  rw [Rect.emb_apply]
  have h0 : (y (0 : Fin 3)).val < 1 := (y (0 : Fin 3)).isLt
  fin_cases a
  · show s + 1 * (y (0 : Fin 3)).val = s; omega
  · show 0 + 1 * (y (1 : Fin 3)).val = (y (1 : Fin 3)).val; omega
  · show 0 + 1 * (y (2 : Fin 3)).val = (y (2 : Fin 3)).val; omega

theorem emb2 {b n : ℕ} {off : Fin 2 → ℕ} (ho : off = ![b, 0]) (inb : ∀ a, off a + (⟨2, ![n, 1024]⟩ : Shape).size a ≤ S1024x1024.size a)
    (y : (⟨2, ![n, 1024]⟩ : Shape).Idx) :
    (Rect.unit (s := S1024x1024) off (⟨2, ![n, 1024]⟩ : Shape).size inb).emb y = at2 (b + (y (0 : Fin 2)).val) (y (1 : Fin 2)).val := by
  subst ho
  refine eq_ix _ _ _ fun a => ?_
  rw [Rect.emb_apply]
  fin_cases a
  · show b + 1 * (y (0 : Fin 2)).val = b + (y (0 : Fin 2)).val; omega
  · show 0 + 1 * (y (1 : Fin 2)).val = (y (1 : Fin 2)).val; omega

/-! ## Loads and stores -/

/-- The elements an access to a rectangle of a whole buffer touches. -/
theorem set_sub {b : Ref sig .tc} {r : Rect b.ty.shape} {I S : Finset b.ty.shape.Idx} (h : r.set = I) (hS : I ⊆ S) :
    ((View.whole b).slice r).set ⊆ S := by rw [View.set_slice_whole, h]; exact hS

/-- What a store to a rectangle of a whole buffer leaves: the value there, the old contents elsewhere. -/
theorem write_rows (c : Dev nD) (b : Ref sig .tc) (r : Rect b.ty.shape) (f : b.ty.Contents (Elt F)) (v : Vec F r.shape b.ty.elt) (g : b.ty.Contents (Elt F))
    {S : Finset b.ty.shape.Idx} (hg : ∀ y, g (r.emb y) = v y) (hg' : ∀ i ∈ S, i ∉ r.set → f i = g i) :
    (((View.whole b).slice r).loc (c : Thread nD τ) ↦[S]{fullShare} ((View.whole b).slice r).write (Elt F) f v Finset.univ : sProp 𝕄)
      ⊢ ((c : Thread nD τ).loc b ↦[S]{fullShare} g) := by
  refine Entails.of_eq (pointsTo_congr fun i hi => ?_)
  by_cases h : i ∈ r.set
  · rw [← View.set_slice_whole b r] at h
    obtain ⟨y, -, rfl⟩ := Finset.mem_map.mp h
    exact (View.write_emb_of_mem _ _ (Finset.mem_univ y)).trans (hg y).symm
  · rw [View.write_of_not_mem _ _ _ (by rw [View.setOn_univ, View.set_slice_whole]; exact h)]
    exact hg' i hi h

/-- A load from the ring buffer: the values there. -/
theorem ld1 (c : Dev nD) {s b n : ℕ} {off : Fin 3 → ℕ} (ho : off = ![s, b, 0]) {inb} {hl} {α : Type} {Q : α → sProp 𝕄}
    {k : Vec F (⟨3, ![1, n, 1024]⟩ : Shape) .bf16 → Prog (TpuEff nD τ sig (Elt F) Λ₀ .tc) α} {S : Finset S4x256x1024.Idx} {q : PosShare TreeShare}
    {f : Vec F S4x256x1024 .bf16} (hS : sl s b n ⊆ S) :
    own1 c S q f ⊢ iprop((own1 c S q f -∗ WP c (k fun y => f (at4 s (b + (y (1 : Fin 3)).val) (y (2 : Fin 3)).val)) Q)
      -∗ WP c (.op (.load (Memref.whole cc0_scratch1) (Rect.unit (s := S4x256x1024) off (⟨3, ![1, n, 1024]⟩ : Shape).size inb).toLoadRect hl) k) Q) := by
  rw [← (funext fun y => congrArg f (emb4 ho inb y))]
  exact wp_load_rect 𝒱₀ (c : Thread nD τ) none Set.univ (m := Memref.whole cc0_scratch1)
    (r := Rect.unit (s := S4x256x1024) off (⟨3, ![1, n, 1024]⟩ : Shape).size inb) (S := S) (f := f) (set_sub (unit_set ho inb) hS)

/-- A store to rows of the ring buffer, where exactly those rows are held. -/
theorem st1 (c : Dev nD) {s b n : ℕ} {off : Fin 3 → ℕ} (ho : off = ![s, b, 0]) {inb} {v : Vec F (⟨3, ![1, n, 1024]⟩ : Shape) .bf16} {hx hl} {α : Type}
    {Q : α → sProp 𝕄} {k : PUnit → Prog (TpuEff nD τ sig (Elt F) Λ₀ .tc) α} {f : Vec F S4x256x1024 .bf16} (g : Vec F S4x256x1024 .bf16)
    (hg : ∀ y, g (at4 s (b + (y (1 : Fin 3)).val) (y (2 : Fin 3)).val) = v y) :
    own1 c (sl s b n) fullShare f ⊢ iprop((own1 c (sl s b n) fullShare g -∗ WP c (k ⟨⟩) Q)
      -∗ WP c (.op (.store (Memref.whole cc0_scratch1) (Rect.unit (s := S4x256x1024) off (⟨3, ![1, n, 1024]⟩ : Shape).size inb) v Finset.univ hx hl) k) Q) := by
  have e := unit_set ho inb
  refine (wp_store 𝒱₀ (c : Thread nD τ) none Set.univ (m := Memref.whole cc0_scratch1) (r := Rect.unit (s := S4x256x1024) off _ inb) (S := sl s b n) (f := f)
    (set_sub e subset_rfl)).trans (wand_mono_left (wand_mono_left ?_))
  exact write_rows c cc0_scratch1 (Rect.unit (s := S4x256x1024) off (⟨3, ![1, n, 1024]⟩ : Shape).size inb) f v g (S := sl s b n)
    (fun y => (congrArg g (emb4 ho inb y)).trans (hg y)) fun i hi hn => absurd (show i ∈ _ by rw [e]; exact hi) hn

/-- A load from the gather buffer: the values there. -/
theorem ld4 (c : Dev nD) {s b n : ℕ} {off : Fin 3 → ℕ} (ho : off = ![s, b, 0]) {inb} {hl} {α : Type} {Q : α → sProp 𝕄}
    {k : Vec F (⟨3, ![1, n, 1024]⟩ : Shape) .bf16 → Prog (TpuEff nD τ sig (Elt F) Λ₀ .tc) α} {S : Finset S4x256x1024.Idx} {q : PosShare TreeShare}
    {f : Vec F S4x256x1024 .bf16} (hS : sl s b n ⊆ S) :
    own4 c S q f ⊢ iprop((own4 c S q f -∗ WP c (k fun y => f (at4 s (b + (y (1 : Fin 3)).val) (y (2 : Fin 3)).val)) Q)
      -∗ WP c (.op (.load (Memref.whole cc0_scratch3) (Rect.unit (s := S4x256x1024) off (⟨3, ![1, n, 1024]⟩ : Shape).size inb).toLoadRect hl) k) Q) := by
  rw [← (funext fun y => congrArg f (emb4 ho inb y))]
  exact wp_load_rect 𝒱₀ (c : Thread nD τ) none Set.univ (m := Memref.whole cc0_scratch3)
    (r := Rect.unit (s := S4x256x1024) off (⟨3, ![1, n, 1024]⟩ : Shape).size inb) (S := S) (f := f) (set_sub (unit_set ho inb) hS)

/-- A store to rows of the gather buffer, where exactly those rows are held. -/
theorem st4 (c : Dev nD) {s b n : ℕ} {off : Fin 3 → ℕ} (ho : off = ![s, b, 0]) {inb} {v : Vec F (⟨3, ![1, n, 1024]⟩ : Shape) .bf16} {hx hl} {α : Type}
    {Q : α → sProp 𝕄} {k : PUnit → Prog (TpuEff nD τ sig (Elt F) Λ₀ .tc) α} {f : Vec F S4x256x1024 .bf16} (g : Vec F S4x256x1024 .bf16)
    (hg : ∀ y, g (at4 s (b + (y (1 : Fin 3)).val) (y (2 : Fin 3)).val) = v y) :
    own4 c (sl s b n) fullShare f ⊢ iprop((own4 c (sl s b n) fullShare g -∗ WP c (k ⟨⟩) Q)
      -∗ WP c (.op (.store (Memref.whole cc0_scratch3) (Rect.unit (s := S4x256x1024) off (⟨3, ![1, n, 1024]⟩ : Shape).size inb) v Finset.univ hx hl) k) Q) := by
  have e := unit_set ho inb
  refine (wp_store 𝒱₀ (c : Thread nD τ) none Set.univ (m := Memref.whole cc0_scratch3) (r := Rect.unit (s := S4x256x1024) off _ inb) (S := sl s b n) (f := f)
    (set_sub e subset_rfl)).trans (wand_mono_left (wand_mono_left ?_))
  exact write_rows c cc0_scratch3 (Rect.unit (s := S4x256x1024) off (⟨3, ![1, n, 1024]⟩ : Shape).size inb) f v g (S := sl s b n)
    (fun y => (congrArg g (emb4 ho inb y)).trans (hg y)) fun i hi hn => absurd (show i ∈ _ by rw [e]; exact hi) hn

/-- A load from the plane buffer, -/
theorem ld2 (c : Dev nD) {s : ℕ} {off : Fin 3 → ℕ} (ho : off = ![s, 0, 0]) {inb} {hl} {α : Type} {Q : α → sProp 𝕄}
    {k : Vec F S1x64x1024 .bf16 → Prog (TpuEff nD τ sig (Elt F) Λ₀ .tc) α} {q : PosShare TreeShare} {f : Vec F S4x64x1024 .bf16} :
    own2 c (sl' s) q f ⊢ iprop((own2 c (sl' s) q f -∗ WP c (k fun y => f (at4' s (y (1 : Fin 3)).val (y (2 : Fin 3)).val)) Q)
      -∗ WP c (.op (.load (Memref.whole cc0_scratch2) (Rect.unit (s := S4x64x1024) off S1x64x1024.size inb).toLoadRect hl) k) Q) := by
  rw [← (funext fun y => congrArg f (emb4' ho inb y))]
  exact wp_load_rect 𝒱₀ (c : Thread nD τ) none Set.univ (m := Memref.whole cc0_scratch2)
    (r := Rect.unit (s := S4x64x1024) off S1x64x1024.size inb) (S := sl' s) (f := f) (set_sub (unit_set ho inb) subset_rfl)

/-- and a store to it. -/
theorem st2 (c : Dev nD) {s : ℕ} {off : Fin 3 → ℕ} (ho : off = ![s, 0, 0]) {inb} {v : Vec F S1x64x1024 .bf16} {hx hl} {α : Type}
    {Q : α → sProp 𝕄} {k : PUnit → Prog (TpuEff nD τ sig (Elt F) Λ₀ .tc) α} {f : Vec F S4x64x1024 .bf16} (g : Vec F S4x64x1024 .bf16)
    (hg : ∀ y, g (at4' s (y (1 : Fin 3)).val (y (2 : Fin 3)).val) = v y) :
    own2 c (sl' s) fullShare f ⊢ iprop((own2 c (sl' s) fullShare g -∗ WP c (k ⟨⟩) Q)
      -∗ WP c (.op (.store (Memref.whole cc0_scratch2) (Rect.unit (s := S4x64x1024) off S1x64x1024.size inb) v Finset.univ hx hl) k) Q) := by
  have e := unit_set ho inb
  refine (wp_store 𝒱₀ (c : Thread nD τ) none Set.univ (m := Memref.whole cc0_scratch2) (r := Rect.unit (s := S4x64x1024) off _ inb) (S := sl' s) (f := f)
    (set_sub e subset_rfl)).trans (wand_mono_left (wand_mono_left ?_))
  exact write_rows c cc0_scratch2 (Rect.unit (s := S4x64x1024) off S1x64x1024.size inb) f v g (S := sl' s)
    (fun y => (congrArg g (emb4' ho inb y)).trans (hg y)) fun i hi hn => absurd (show i ∈ _ by rw [e]; exact hi) hn

/-- The whole of a device's product buffer, and of its output's. -/
def own0 (c : Dev nD) (f : Vec F S1024x1024 .f32) : sProp 𝕄 := ((c : Thread nD τ).loc cc0_scratch0) ↦{fullShare} f
def ownO (c : Dev nD) (f : Vec F S1024x1024 .f32) : sProp 𝕄 := ((c : Thread nD τ).loc cc0_stg2_0) ↦{fullShare} f

/-- A load from the product buffer, -/
theorem ld0 (c : Dev nD) {b n : ℕ} {off : Fin 2 → ℕ} (ho : off = ![b, 0]) {inb} {hl} {α : Type} {Q : α → sProp 𝕄}
    {k : Vec F (⟨2, ![n, 1024]⟩ : Shape) .f32 → Prog (TpuEff nD τ sig (Elt F) Λ₀ .tc) α} {f : Vec F S1024x1024 .f32} :
    own0 c f ⊢ iprop((own0 c f -∗ WP c (k fun y => f (at2 (b + (y (0 : Fin 2)).val) (y (1 : Fin 2)).val)) Q)
      -∗ WP c (.op (.load (Memref.whole cc0_scratch0) (Rect.unit (s := S1024x1024) off (⟨2, ![n, 1024]⟩ : Shape).size inb).toLoadRect hl) k) Q) := by
  rw [← (funext fun y => congrArg f (emb2 ho inb y))]
  exact wp_load_rect 𝒱₀ (c : Thread nD τ) none Set.univ (m := Memref.whole cc0_scratch0)
    (r := Rect.unit (s := S1024x1024) off (⟨2, ![n, 1024]⟩ : Shape).size inb) (S := Finset.univ) (f := f) (Finset.subset_univ _)

/-- from the output's, -/
theorem ldO (c : Dev nD) {b n : ℕ} {off : Fin 2 → ℕ} (ho : off = ![b, 0]) {inb} {hl} {α : Type} {Q : α → sProp 𝕄}
    {k : Vec F (⟨2, ![n, 1024]⟩ : Shape) .f32 → Prog (TpuEff nD τ sig (Elt F) Λ₀ .tc) α} {f : Vec F S1024x1024 .f32} :
    ownO c f ⊢ iprop((ownO c f -∗ WP c (k fun y => f (at2 (b + (y (0 : Fin 2)).val) (y (1 : Fin 2)).val)) Q)
      -∗ WP c (.op (.load (Memref.whole cc0_stg2_0) (Rect.unit (s := S1024x1024) off (⟨2, ![n, 1024]⟩ : Shape).size inb).toLoadRect hl) k) Q) := by
  rw [← (funext fun y => congrArg f (emb2 ho inb y))]
  exact wp_load_rect 𝒱₀ (c : Thread nD τ) none Set.univ (m := Memref.whole cc0_stg2_0)
    (r := Rect.unit (s := S1024x1024) off (⟨2, ![n, 1024]⟩ : Shape).size inb) (S := Finset.univ) (f := f) (Finset.subset_univ _)

theorem emb_mem {s : Shape} {off size : Fin s.rank → ℕ} (inb : ∀ a, off a + size a ≤ s.size a) (y : (⟨s.rank, size⟩ : Shape).Idx) :
    (Rect.unit (s := s) off size inb).emb y ∈ (Rect.unit (s := s) off size inb).set := by
  rw [Rect.mem_set_unit]
  intro a
  have h := (y a).isLt
  have e : ((Rect.unit (s := s) off size inb).emb y a : ℕ) = off a + 1 * (y a).val := Rect.emb_apply _ _ _
  rw [e]
  exact ⟨by omega, by have : (y a).val < size a := h; omega⟩

theorem emb_all {s : Shape} {off : Fin s.rank → ℕ} (ho : off = fun _ => 0) (inb : ∀ a, off a + s.size a ≤ s.size a) (y : s.Idx) :
    (Rect.unit (s := s) off s.size inb).emb y = y := by
  subst ho
  refine funext fun a => Fin.ext ?_
  rw [Rect.emb_apply]
  show 0 + 1 * (y a).val = (y a).val; omega

/-- from the operands', -/
theorem ldX (c : Dev nD) {off : Fin 2 → ℕ} (ho : off = fun _ => 0) {inb} {hl} {α : Type} {Q : α → sProp 𝕄}
    {k : Vec F S1024x64 .bf16 → Prog (TpuEff nD τ sig (Elt F) Λ₀ .tc) α} {q : PosShare TreeShare} {f : Vec F S1024x64 .bf16} :
    (((c : Thread nD τ).loc cc0_stg0_0) ↦{q} f : sProp 𝕄) ⊢ iprop(((((c : Thread nD τ).loc cc0_stg0_0) ↦{q} f) -∗ WP c (k f) Q)
      -∗ WP c (.op (.load (Memref.whole cc0_stg0_0) (Rect.unit (s := S1024x64) off S1024x64.size inb).toLoadRect hl) k) Q) := by
  have key : ∀ v : Vec F S1024x64 .bf16, (fun y => f ((Rect.unit (s := S1024x64) off S1024x64.size inb).emb y)) = v →
      ((((c : Thread nD τ).loc cc0_stg0_0) ↦{q} f : sProp 𝕄) ⊢ iprop(((((c : Thread nD τ).loc cc0_stg0_0) ↦{q} f) -∗ WP c (k v) Q)
      -∗ WP c (.op (.load (Memref.whole cc0_stg0_0) (Rect.unit (s := S1024x64) off S1024x64.size inb).toLoadRect hl) k) Q)) := by
    rintro v rfl
    exact wp_load_rect 𝒱₀ (c : Thread nD τ) none Set.univ (m := Memref.whole cc0_stg0_0)
      (r := Rect.unit (s := S1024x64) off S1024x64.size inb) (S := Finset.univ) (f := f) (Finset.subset_univ _)
  exact key f (funext fun y => congrArg f (emb_all ho inb y))

theorem ldW (c : Dev nD) {off : Fin 2 → ℕ} (ho : off = fun _ => 0) {inb} {hl} {α : Type} {Q : α → sProp 𝕄}
    {k : Vec F S64x1024 .bf16 → Prog (TpuEff nD τ sig (Elt F) Λ₀ .tc) α} {q : PosShare TreeShare} {f : Vec F S64x1024 .bf16} :
    (((c : Thread nD τ).loc cc0_stg1_0) ↦{q} f : sProp 𝕄) ⊢ iprop(((((c : Thread nD τ).loc cc0_stg1_0) ↦{q} f) -∗ WP c (k f) Q)
      -∗ WP c (.op (.load (Memref.whole cc0_stg1_0) (Rect.unit (s := S64x1024) off S64x1024.size inb).toLoadRect hl) k) Q) := by
  have key : ∀ v : Vec F S64x1024 .bf16, (fun y => f ((Rect.unit (s := S64x1024) off S64x1024.size inb).emb y)) = v →
      ((((c : Thread nD τ).loc cc0_stg1_0) ↦{q} f : sProp 𝕄) ⊢ iprop(((((c : Thread nD τ).loc cc0_stg1_0) ↦{q} f) -∗ WP c (k v) Q)
      -∗ WP c (.op (.load (Memref.whole cc0_stg1_0) (Rect.unit (s := S64x1024) off S64x1024.size inb).toLoadRect hl) k) Q)) := by
    rintro v rfl
    exact wp_load_rect 𝒱₀ (c : Thread nD τ) none Set.univ (m := Memref.whole cc0_stg1_0)
      (r := Rect.unit (s := S64x1024) off S64x1024.size inb) (S := Finset.univ) (f := f) (Finset.subset_univ _)
  exact key f (funext fun y => congrArg f (emb_all ho inb y))

/-- a store of the whole product buffer, -/
theorem st0 (c : Dev nD) {off : Fin 2 → ℕ} (ho : off = fun _ => 0) {inb} {v : Vec F S1024x1024 .f32} {hx hl} {α : Type}
    {Q : α → sProp 𝕄} {k : PUnit → Prog (TpuEff nD τ sig (Elt F) Λ₀ .tc) α} {f : Vec F S1024x1024 .f32} :
    own0 c f ⊢ iprop((own0 c v -∗ WP c (k ⟨⟩) Q)
      -∗ WP c (.op (.store (Memref.whole cc0_scratch0) (Rect.unit (s := S1024x1024) off S1024x1024.size inb) v Finset.univ hx hl) k) Q) := by
  refine (wp_store 𝒱₀ (c : Thread nD τ) none Set.univ (m := Memref.whole cc0_scratch0) (r := Rect.unit (s := S1024x1024) off _ inb) (S := Finset.univ) (f := f)
    (Finset.subset_univ _)).trans (wand_mono_left (wand_mono_left ?_))
  exact write_rows c cc0_scratch0 (Rect.unit (s := S1024x1024) off S1024x1024.size inb) f v v (S := Finset.univ)
    (fun y => congrArg v (emb_all ho inb y)) fun i hi hn => absurd (by rw [← emb_all ho inb i]; exact emb_mem inb _) hn

/-- and stores of the output's rows, one after another: `T` are the rows written so far. -/
def outT (B : Blocks F) (c : Dev nD) (f : Vec F S1024x1024 .f32) (T : Finset S1024x1024.Idx) : Vec F S1024x1024 .f32 :=
  fun i => if i ∈ T then outV B c i else f i

theorem stO (B : Blocks F) (c : Dev nD) {b n : ℕ} {off : Fin 2 → ℕ} (ho : off = ![b, 0]) {inb} {v : Vec F (⟨2, ![n, 1024]⟩ : Shape) .f32} {hx hl} {α : Type}
    {Q : α → sProp 𝕄} {k : PUnit → Prog (TpuEff nD τ sig (Elt F) Λ₀ .tc) α} {f : Vec F S1024x1024 .f32} {T : Finset S1024x1024.Idx}
    (hg : ∀ y, outV B c (at2 (b + (y (0 : Fin 2)).val) (y (1 : Fin 2)).val) = v y) :
    ownO c (outT B c f T) ⊢ iprop((ownO c (outT B c f (T ∪ rws b n)) -∗ WP c (k ⟨⟩) Q)
      -∗ WP c (.op (.store (Memref.whole cc0_stg2_0) (Rect.unit (s := S1024x1024) off (⟨2, ![n, 1024]⟩ : Shape).size inb) v Finset.univ hx hl) k) Q) := by
  have e : (Rect.unit (s := S1024x1024) off (⟨2, ![n, 1024]⟩ : Shape).size inb).set = rws b n := unit_set ho inb
  refine (wp_store 𝒱₀ (c : Thread nD τ) none Set.univ (m := Memref.whole cc0_stg2_0) (r := Rect.unit (s := S1024x1024) off _ inb) (S := Finset.univ)
    (f := outT B c f T) (Finset.subset_univ _)).trans (wand_mono_left (wand_mono_left ?_))
  refine write_rows c cc0_stg2_0 (Rect.unit (s := S1024x1024) off (⟨2, ![n, 1024]⟩ : Shape).size inb) (outT B c f T) v (outT B c f (T ∪ rws b n)) (S := Finset.univ)
    (fun y => ?_) fun i hi hn => ?_
  · rw [← hg y, ← emb2 ho inb y]
    exact if_pos (Finset.mem_union_right _ (by rw [← e]; exact emb_mem inb _))
  · rw [e] at hn
    unfold outT
    simp only [Finset.mem_union, hn, _root_.or_false]

/-! ## What a transfer carries is what the receiver's contents say -/

variable (B : Blocks F)

theorem R1_top (c : Dev nD) (s : Fin 3) {a b : ℕ} (ha : a < 128) : R1 B (rt c) (at4 (s.val + 1) a b) = A1 B c (at4 s.val a b) := by
  have hs : (s.val + 1) % 4 = s.val + 1 := Nat.mod_eq_of_lt (by omega)
  have hs' : s.val % 4 = s.val := Nat.mod_eq_of_lt (by omega)
  have ha' : a % 256 = a := Nat.mod_eq_of_lt (by omega)
  show (if (a % 256) % 256 < 128 then a1 B ((s.val + 1) % 4 - 1) (lf (rt c)) (at1 (a % 256) (b % 1024)) else _)
    = a1 B (s.val % 4) c (at1 (a % 256) (b % 1024))
  rw [if_pos (by omega), hs, hs', lf_rt, Nat.add_sub_cancel]

theorem R1_bot (c : Dev nD) (s : Fin 3) {a b : ℕ} (ha : a < 128) : R1 B (lf c) (at4 (s.val + 1) (128 + a) b) = A1 B c (at4 s.val (128 + a) b) := by
  have hs : (s.val + 1) % 4 = s.val + 1 := Nat.mod_eq_of_lt (by omega)
  have hs' : s.val % 4 = s.val := Nat.mod_eq_of_lt (by omega)
  show (if ((128 + a) % 256) % 256 < 128 then _ else a1 B ((s.val + 1) % 4 - 1) (rt (lf c)) (at1 ((128 + a) % 256) (b % 1024)))
    = a1 B (s.val % 4) c (at1 ((128 + a) % 256) (b % 1024))
  rw [if_neg (by omega), hs, hs', rt_lf, Nat.add_sub_cancel]

theorem R2_slot (c : Dev nD) (s : Fin 3) {a b : ℕ} : R2 B (zn c) (at4' (s.val + 1) a b) = A2 B c (at4' s.val a b) := by
  have hs : (s.val + 1) % 4 = s.val + 1 := Nat.mod_eq_of_lt (by omega)
  have hs' : s.val % 4 = s.val := Nat.mod_eq_of_lt (by omega)
  show a2 B ((s.val + 1) % 4 - 1) (zp (zn c)) (at1' (a % 64) (b % 1024)) = a2 B (s.val % 4) c (at1' (a % 64) (b % 1024))
  rw [hs, hs', zp_zn, Nat.add_sub_cancel]

theorem dv_mod {z z' p p' : ℕ} (hz : z % 4 = z' % 4) (hp : p % 4 = p' % 4) : dv z p = dv z' p' := dv_congr hz hp

/-- The gathered slots: slot 0 is the same on every plane, -/
theorem A4_zn (c : Dev nD) {a b : ℕ} : A4 B (zn c) (at4 0 a b) = A4 B c (at4 0 a b) := by
  show fin16 B (dv ((a % 256) / 64 + 3) (org (pc (zn c)) 0 (a % 256))) _ = fin16 B (dv ((a % 256) / 64 + 3) (org (pc c) 0 (a % 256))) _
  rw [pc_zn]

/-- and each next one holds the left neighbour's upper half rows and the right one's lower. -/
theorem A4_rt (c : Dev nD) (s : Fin 3) {a b : ℕ} (ha : a < 128) : A4 B (rt c) (at4 (s.val + 1) a b) = A4 B c (at4 s.val a b) := by
  have hs : (s.val + 1) % 4 = s.val + 1 := Nat.mod_eq_of_lt (by omega)
  have hs' : s.val % 4 = s.val := Nat.mod_eq_of_lt (by omega)
  have ha' : a % 256 < 128 := by omega
  show fin16 B (dv ((a % 256) / 64 + 3) (org (pc (rt c)) ((s.val + 1) % 4) (a % 256))) _ = fin16 B (dv ((a % 256) / 64 + 3) (org (pc c) (s.val % 4) (a % 256))) _
  have e : dv ((a % 256) / 64 + 3) (org (pc (rt c)) ((s.val + 1) % 4) (a % 256)) = dv ((a % 256) / 64 + 3) (org (pc c) (s.val % 4) (a % 256)) := by
    refine dv_mod rfl ?_
    rw [hs, hs', pc_rt]; unfold org; rw [if_pos ha', if_pos ha']; omega
  rw [e]; rfl

theorem A4_lf (c : Dev nD) (s : Fin 3) {a b : ℕ} (ha : a < 128) : A4 B (lf c) (at4 (s.val + 1) (128 + a) b) = A4 B c (at4 s.val (128 + a) b) := by
  have hs : (s.val + 1) % 4 = s.val + 1 := Nat.mod_eq_of_lt (by omega)
  have hs' : s.val % 4 = s.val := Nat.mod_eq_of_lt (by omega)
  have ha' : ¬ (128 + a) % 256 < 128 := by omega
  show fin16 B (dv (((128 + a) % 256) / 64 + 3) (org (pc (lf c)) ((s.val + 1) % 4) ((128 + a) % 256))) _
    = fin16 B (dv (((128 + a) % 256) / 64 + 3) (org (pc c) (s.val % 4) ((128 + a) % 256))) _
  have e : dv (((128 + a) % 256) / 64 + 3) (org (pc (lf c)) ((s.val + 1) % 4) ((128 + a) % 256))
      = dv (((128 + a) % 256) / 64 + 3) (org (pc c) (s.val % 4) ((128 + a) % 256)) := by
    refine dv_mod rfl ?_
    rw [hs, hs', pc_lf]; unfold org; rw [if_neg ha', if_neg ha']; omega
  rw [e]; rfl

/-! ## Issuing, channel by channel -/

variable (K : Dev nD × Option (Ch × Bool) → ℕ)

/-- Rows of the ring buffer, lent for the transfer on channel `j` to the same rows of another slot at the receiver; -/
theorem issue1 (c : Dev nD) (j : Ch) {n₀ r w : ℕ} (hn : n₀ = j.ord) (hw : w ≤ j.ord) (d : Dev nD) (hd : d = j.dst c) {s s' b n : ℕ}
    (hs : sendPay B j c = own1 c (sl s b n) fullShare (A1 B c))
    (hl : land (F := F) j (j.dst c) = iprop(∃ f, own1 (F := F) (j.dst c) (sl s' b n) fullShare f))
    (hp : recvPay B j (j.dst c) = own1 (j.dst c) (sl s' b n) fullShare (R1 B (j.dst c)))
    (hv : ∀ a b', a < n → R1 B (j.dst c) (at4 s' (b + a) b') = A1 B c (at4 s (b + a) b'))
    {off off' : Fin 3 → ℕ} (ho : off = ![s, b, 0]) (ho' : off' = ![s', b, 0]) {inb inb'} {hsq : (⟨3, ![1, n, 1024]⟩ : Shape).Squeezes (⟨2, ![n, 1024]⟩ : Shape)} {sS sR : DmaSem sig}
    (hsS : sS = ssem j) (hsR : sR = rsem j) {hsc hsrc hdst hsem}
    (hN : (((Memref.whole cc0_scratch1).slice (Rect.unit (s := S4x256x1024) off' (⟨3, ![1, n, 1024]⟩ : Shape).size inb') (fun _ => rfl)).squeeze (⟨2, ![n, 1024]⟩ : Shape) hsq).view.dmaCredit = amt j)
    {α : Type} {Q : α → sProp 𝕄} {k : PUnit → Prog (TpuEff nD τ sig (Elt F) Λ₀ .tc) α} :
    iprop(St B K n₀ r w c ∗ sendPay B j c)
      ⊢ iprop((St B K (n₀ + 1) r w c -∗ WP c (k ⟨⟩) Q)
          -∗ WP c (.op (.enqueueDma (((Memref.whole cc0_scratch1).slice (Rect.unit (s := S4x256x1024) off (⟨3, ![1, n, 1024]⟩ : Shape).size inb) (fun _ => rfl)).squeeze (⟨2, ![n, 1024]⟩ : Shape) hsq)
            (.remote (Dev.tc d : Thread nD τ) (((Memref.whole cc0_scratch1).slice (Rect.unit (s := S4x256x1024) off' (⟨3, ![1, n, 1024]⟩ : Shape).size inb') (fun _ => rfl)).squeeze (⟨2, ![n, 1024]⟩ : Shape) hsq)
              (.dma sS) hsc) (.dma sR) hsrc hdst hsem) k) Q) := by
  have e := (part_set cc0_scratch1 (Rect.unit (s := S4x256x1024) off (⟨3, ![1, n, 1024]⟩ : Shape).size inb) (s := (⟨2, ![n, 1024]⟩ : Shape)) hsq.numel_eq).trans (unit_set ho inb)
  have e' := (part_set cc0_scratch1 (Rect.unit (s := S4x256x1024) off' (⟨3, ![1, n, 1024]⟩ : Shape).size inb') (s := (⟨2, ![n, 1024]⟩ : Shape)) hsq.numel_eq).trans (unit_set ho' inb')
  refine wp_issue B K c j hn hw d hd hsS hsR fullShare (A1 B c) hN (Eq.trans ?_ hs.symm) ((Entails.of_eq hl).trans ?_) fun fd => BIBase.Entails.trans ?_ (Entails.of_eq hp.symm)
  · exact congrArg (fun I : Finset S4x256x1024.Idx => (((c : Thread nD τ).loc cc0_scratch1) ↦[I]{fullShare} (A1 B c) : sProp 𝕄)) e
  · exact Entails.of_eq (congrArg (fun I : Finset S4x256x1024.Idx => (iprop(∃ f, (((j.dst c : Dev nD) : Thread nD τ).loc cc0_scratch1) ↦[I]{fullShare} f) : sProp 𝕄)) e'.symm)
  · refine (Entails.of_eq (part_landed cc0_scratch1 _ _ _ _ (j.dst c) (A1 B c) fd (R1 B (j.dst c)) fun y => ?_)).trans
      (Entails.of_eq (congrArg (fun I : Finset S4x256x1024.Idx => ((((j.dst c : Dev nD) : Thread nD τ).loc cc0_scratch1) ↦[I]{fullShare} (R1 B (j.dst c)) : sProp 𝕄)) (unit_set ho' inb')))
    refine (congrArg (R1 B (j.dst c)) (emb4 ho' inb' _)).trans (Eq.trans ?_ (congrArg (A1 B c) (emb4 ho inb _)).symm)
    exact hv _ _ (Fin.isLt _)

/-- a slot of the plane buffer; -/
theorem issue2 (c : Dev nD) (j : Ch) {n₀ r w : ℕ} (hn : n₀ = j.ord) (hw : w ≤ j.ord) (d : Dev nD) (hd : d = j.dst c) {s s' : ℕ}
    (hs : sendPay B j c = own2 c (sl' s) fullShare (A2 B c))
    (hl : land (F := F) j (j.dst c) = iprop(∃ f, own2 (F := F) (j.dst c) (sl' s') fullShare f))
    (hp : recvPay B j (j.dst c) = own2 (j.dst c) (sl' s') fullShare (R2 B (j.dst c)))
    (hv : ∀ a b', R2 B (j.dst c) (at4' s' a b') = A2 B c (at4' s a b'))
    {off off' : Fin 3 → ℕ} (ho : off = ![s, 0, 0]) (ho' : off' = ![s', 0, 0]) {inb inb'} {hsq : S1x64x1024.Squeezes S64x1024} {sS sR : DmaSem sig}
    (hsS : sS = ssem j) (hsR : sR = rsem j) {hsc hsrc hdst hsem}
    (hN : (((Memref.whole cc0_scratch2).slice (Rect.unit (s := S4x64x1024) off' S1x64x1024.size inb') (fun _ => rfl)).squeeze S64x1024 hsq).view.dmaCredit = amt j)
    {α : Type} {Q : α → sProp 𝕄} {k : PUnit → Prog (TpuEff nD τ sig (Elt F) Λ₀ .tc) α} :
    iprop(St B K n₀ r w c ∗ sendPay B j c)
      ⊢ iprop((St B K (n₀ + 1) r w c -∗ WP c (k ⟨⟩) Q)
          -∗ WP c (.op (.enqueueDma (((Memref.whole cc0_scratch2).slice (Rect.unit (s := S4x64x1024) off S1x64x1024.size inb) (fun _ => rfl)).squeeze S64x1024 hsq)
            (.remote (Dev.tc d : Thread nD τ) (((Memref.whole cc0_scratch2).slice (Rect.unit (s := S4x64x1024) off' S1x64x1024.size inb') (fun _ => rfl)).squeeze S64x1024 hsq)
              (.dma sS) hsc) (.dma sR) hsrc hdst hsem) k) Q) := by
  have e := (part_set cc0_scratch2 (Rect.unit (s := S4x64x1024) off S1x64x1024.size inb) (s := S64x1024) hsq.numel_eq).trans (unit_set ho inb)
  have e' := (part_set cc0_scratch2 (Rect.unit (s := S4x64x1024) off' S1x64x1024.size inb') (s := S64x1024) hsq.numel_eq).trans (unit_set ho' inb')
  refine wp_issue B K c j hn hw d hd hsS hsR fullShare (A2 B c) hN (Eq.trans ?_ hs.symm) ((Entails.of_eq hl).trans ?_) fun fd => BIBase.Entails.trans ?_ (Entails.of_eq hp.symm)
  · exact congrArg (fun I : Finset S4x64x1024.Idx => (((c : Thread nD τ).loc cc0_scratch2) ↦[I]{fullShare} (A2 B c) : sProp 𝕄)) e
  · exact Entails.of_eq (congrArg (fun I : Finset S4x64x1024.Idx => (iprop(∃ f, (((j.dst c : Dev nD) : Thread nD τ).loc cc0_scratch2) ↦[I]{fullShare} f) : sProp 𝕄)) e'.symm)
  · refine (Entails.of_eq (part_landed cc0_scratch2 _ _ _ _ (j.dst c) (A2 B c) fd (R2 B (j.dst c)) fun y => ?_)).trans
      (Entails.of_eq (congrArg (fun I : Finset S4x64x1024.Idx => ((((j.dst c : Dev nD) : Thread nD τ).loc cc0_scratch2) ↦[I]{fullShare} (R2 B (j.dst c)) : sProp 𝕄)) (unit_set ho' inb')))
    refine (congrArg (R2 B (j.dst c)) (emb4' ho' inb' _)).trans (Eq.trans ?_ (congrArg (A2 B c) (emb4' ho inb _)).symm)
    exact hv _ _

/-- and rows of the gather buffer. -/
theorem issue4 (c : Dev nD) (j : Ch) {n₀ r w : ℕ} (hn : n₀ = j.ord) (hw : w ≤ j.ord) (d : Dev nD) (hd : d = j.dst c) (q : PosShare TreeShare) {s s' b n : ℕ}
    (hs : sendPay B j c = own4 c (sl s b n) q (A4 B c))
    (hl : land (F := F) j (j.dst c) = iprop(∃ f, own4 (F := F) (j.dst c) (sl s' b n) fullShare f))
    (hp : recvPay B j (j.dst c) = own4 (j.dst c) (sl s' b n) fullShare (A4 B (j.dst c)))
    (hv : ∀ a b', a < n → A4 B (j.dst c) (at4 s' (b + a) b') = A4 B c (at4 s (b + a) b'))
    {off off' : Fin 3 → ℕ} (ho : off = ![s, b, 0]) (ho' : off' = ![s', b, 0]) {inb inb'} {hsq : (⟨3, ![1, n, 1024]⟩ : Shape).Squeezes (⟨2, ![n, 1024]⟩ : Shape)} {sS sR : DmaSem sig}
    (hsS : sS = ssem j) (hsR : sR = rsem j) {hsc hsrc hdst hsem}
    (hN : (((Memref.whole cc0_scratch3).slice (Rect.unit (s := S4x256x1024) off' (⟨3, ![1, n, 1024]⟩ : Shape).size inb') (fun _ => rfl)).squeeze (⟨2, ![n, 1024]⟩ : Shape) hsq).view.dmaCredit = amt j)
    {α : Type} {Q : α → sProp 𝕄} {k : PUnit → Prog (TpuEff nD τ sig (Elt F) Λ₀ .tc) α} :
    iprop(St B K n₀ r w c ∗ sendPay B j c)
      ⊢ iprop((St B K (n₀ + 1) r w c -∗ WP c (k ⟨⟩) Q)
          -∗ WP c (.op (.enqueueDma (((Memref.whole cc0_scratch3).slice (Rect.unit (s := S4x256x1024) off (⟨3, ![1, n, 1024]⟩ : Shape).size inb) (fun _ => rfl)).squeeze (⟨2, ![n, 1024]⟩ : Shape) hsq)
            (.remote (Dev.tc d : Thread nD τ) (((Memref.whole cc0_scratch3).slice (Rect.unit (s := S4x256x1024) off' (⟨3, ![1, n, 1024]⟩ : Shape).size inb') (fun _ => rfl)).squeeze (⟨2, ![n, 1024]⟩ : Shape) hsq)
              (.dma sS) hsc) (.dma sR) hsrc hdst hsem) k) Q) := by
  have e := (part_set cc0_scratch3 (Rect.unit (s := S4x256x1024) off (⟨3, ![1, n, 1024]⟩ : Shape).size inb) (s := (⟨2, ![n, 1024]⟩ : Shape)) hsq.numel_eq).trans (unit_set ho inb)
  have e' := (part_set cc0_scratch3 (Rect.unit (s := S4x256x1024) off' (⟨3, ![1, n, 1024]⟩ : Shape).size inb') (s := (⟨2, ![n, 1024]⟩ : Shape)) hsq.numel_eq).trans (unit_set ho' inb')
  refine wp_issue B K c j hn hw d hd hsS hsR q (A4 B c) hN (Eq.trans ?_ hs.symm) ((Entails.of_eq hl).trans ?_) fun fd => BIBase.Entails.trans ?_ (Entails.of_eq hp.symm)
  · exact congrArg (fun I : Finset S4x256x1024.Idx => (((c : Thread nD τ).loc cc0_scratch3) ↦[I]{q} (A4 B c) : sProp 𝕄)) e
  · exact Entails.of_eq (congrArg (fun I : Finset S4x256x1024.Idx => (iprop(∃ f, (((j.dst c : Dev nD) : Thread nD τ).loc cc0_scratch3) ↦[I]{fullShare} f) : sProp 𝕄)) e'.symm)
  · refine (Entails.of_eq (part_landed cc0_scratch3 _ _ _ _ (j.dst c) (A4 B c) fd (A4 B (j.dst c)) fun y => ?_)).trans
      (Entails.of_eq (congrArg (fun I : Finset S4x256x1024.Idx => ((((j.dst c : Dev nD) : Thread nD τ).loc cc0_scratch3) ↦[I]{fullShare} (A4 B (j.dst c)) : sProp 𝕄)) (unit_set ho' inb')))
    refine (congrArg (A4 B (j.dst c)) (emb4 ho' inb' _)).trans (Eq.trans ?_ (congrArg (A4 B c) (emb4 ho inb _)).symm)
    exact hv _ _ (Fin.isLt _)

end Cert.KernelIdeal.Run

end
-- ==== Proof.KernelIdeal.Values.lean ====
/-
# The values the body stores

Entry by entry, each value the body stores is what the contents say of the rows it is stored to; and the rows stored to
the output are all of it.
-/
module

public import proofs.«01_k».proof.Proof.KernelIdeal.Ops
public import Idealize.ShloMosaic.Lib.Pipeline.Value

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (B : Blocks F)

/-! ## Indices -/

theorem at1_self (y : S1x256x1024.Idx) : at1 (y (1 : Fin 3)).val (y (2 : Fin 3)).val = y := by
  refine (eq_ix _ _ y fun a => ?_).symm
  have h0 : (y (0 : Fin 3)).val < 1 := (y (0 : Fin 3)).isLt
  fin_cases a
  · show (y (0 : Fin 3)).val = 0; omega
  · rfl
  · rfl

theorem at1'_self (y : S1x64x1024.Idx) : at1' (y (1 : Fin 3)).val (y (2 : Fin 3)).val = y := by
  refine (eq_ix _ _ y fun a => ?_).symm
  have h0 : (y (0 : Fin 3)).val < 1 := (y (0 : Fin 3)).isLt
  fin_cases a
  · show (y (0 : Fin 3)).val = 0; omega
  · rfl
  · rfl

theorem at64_self (y : S64x1024.Idx) : at64 (y (0 : Fin 2)).val (y (1 : Fin 2)).val = y := by
  refine (eq_ix _ _ y fun a => ?_).symm
  fin_cases a <;> rfl

/-- Coordinates are taken modulo the extents, so a coordinate within them is itself. -/
theorem at1_mod {a b : ℕ} : at1 (a % 256) (b % 1024) = at1 a b := by
  refine funext fun k => Fin.ext ?_
  fin_cases k
  · rfl
  · exact Nat.mod_mod _ _
  · exact Nat.mod_mod _ _

theorem at1'_mod {a b : ℕ} : at1' (a % 64) (b % 1024) = at1' a b := by
  refine funext fun k => Fin.ext ?_
  fin_cases k
  · rfl
  · exact Nat.mod_mod _ _
  · exact Nat.mod_mod _ _

theorem A1_at (c : Dev nD) {s a b : ℕ} (hs : s < 4) : A1 B c (at4 s a b) = a1 B s c (at1 a b) := by
  show a1 B (s % 4) c (at1 (a % 256) (b % 1024)) = _
  rw [at1_mod, Nat.mod_eq_of_lt hs]

theorem R1_at (c : Dev nD) {s a b : ℕ} (hs : s + 1 < 4) : R1 B c (at4 (s + 1) a b) = halves (a1 B s (lf c)) (a1 B s (rt c)) (at1 a b) := by
  show halves (a1 B ((s + 1) % 4 - 1) (lf c)) (a1 B ((s + 1) % 4 - 1) (rt c)) (at1 (a % 256) (b % 1024)) = _
  rw [at1_mod, Nat.mod_eq_of_lt hs, Nat.add_sub_cancel]

theorem A2_at (c : Dev nD) {s a b : ℕ} (hs : s < 4) : A2 B c (at4' s a b) = a2 B s c (at1' a b) := by
  show a2 B (s % 4) c (at1' (a % 64) (b % 1024)) = _
  rw [at1'_mod, Nat.mod_eq_of_lt hs]

theorem R2_at (c : Dev nD) {s a b : ℕ} (hs : s + 1 < 4) : R2 B c (at4' (s + 1) a b) = a2 B s (zp c) (at1' a b) := by
  show a2 B ((s + 1) % 4 - 1) (zp c) (at1' (a % 64) (b % 1024)) = _
  rw [at1'_mod, Nat.mod_eq_of_lt hs, Nat.add_sub_cancel]

/-! ## What the body stores is what the contents say -/

theorem val_s1_0 (c : Dev nD) (y : S1x256x1024.Idx) :
    A1 B c (at4 0 (0 + (y (1 : Fin 3)).val) (y (2 : Fin 3)).val)
      = k0_pay2 (fun y => accV B c (at2 (256 * pc c + (y (0 : Fin 2)).val) (y (1 : Fin 2)).val)) y := by
  rw [A1_at B c (by omega), Nat.zero_add, at1_self]; rfl

theorem val_s1 (c : Dev nD) (s : Fin 3) (y : S1x256x1024.Idx) :
    A1 B c (at4 (s.val + 1) (0 + (y (1 : Fin 3)).val) (y (2 : Fin 3)).val)
      = k0_pay3 (fun y => accV B c (at2 (256 * ((pc c + 3 - s.val) % 4) + (y (0 : Fin 2)).val) (y (1 : Fin 2)).val))
          (fun y => accV B c (at2 (256 * ((pc c + s.val + 1) % 4) + 128 + (y (0 : Fin 2)).val) (y (1 : Fin 2)).val))
          (fun y => R1 B c (at4 (s.val + 1) (0 + (y (1 : Fin 3)).val) (y (2 : Fin 3)).val)) y := by
  rw [A1_at B c (by omega), Nat.zero_add, at1_self]
  have e : (fun y : S1x256x1024.Idx => R1 B c (at4 (s.val + 1) (0 + (y (1 : Fin 3)).val) (y (2 : Fin 3)).val)) = halves (a1 B s.val (lf c)) (a1 B s.val (rt c)) :=
    funext fun y => by rw [R1_at B c (by omega), Nat.zero_add, at1_self]
  rw [e]; rfl

theorem val_s2_0 (c : Dev nD) (y : S1x64x1024.Idx) :
    A2 B c (at4' 0 (y (1 : Fin 3)).val (y (2 : Fin 3)).val)
      = k0_pay6 (fun y => A1 B c (at4 3 (64 * zc c + (y (1 : Fin 3)).val) (y (2 : Fin 3)).val)) y := by
  rw [A2_at B c (by omega), at1'_self]; rfl

theorem val_s2 (c : Dev nD) (s : Fin 3) (y : S1x64x1024.Idx) :
    A2 B c (at4' (s.val + 1) (y (1 : Fin 3)).val (y (2 : Fin 3)).val)
      = k0_pay7 (fun y => R2 B c (at4' (s.val + 1) (y (1 : Fin 3)).val (y (2 : Fin 3)).val))
          (fun y => A1 B c (at4 3 (64 * ((zc c + 3 - s.val) % 4) + (y (1 : Fin 3)).val) (y (2 : Fin 3)).val)) y := by
  rw [A2_at B c (by omega), at1'_self]
  have e : (fun y : S1x64x1024.Idx => R2 B c (at4' (s.val + 1) (y (1 : Fin 3)).val (y (2 : Fin 3)).val)) = a2 B s.val (zp c) :=
    funext fun y => by rw [R2_at B c (by omega), at1'_self]
  rw [e]; rfl

theorem slot3 (c : Dev nD) : (fun y : S1x64x1024.Idx => A2 B c (at4' 3 (y (1 : Fin 3)).val (y (2 : Fin 3)).val)) = a2 B 3 c :=
  funext fun y => by rw [A2_at B c (by omega), at1'_self]

theorem val_s4 (c : Dev nD) (y : S1x64x1024.Idx) :
    A4 B c (at4 0 (64 * ((zc c + 1) % 4) + (y (1 : Fin 3)).val) (y (2 : Fin 3)).val)
      = k0_pay12 (k0_pay11 (fun y => A2 B c (at4' 3 (y (1 : Fin 3)).val (y (2 : Fin 3)).val))) y := by
  rw [slot3]
  have hy : (y (1 : Fin 3)).val < 64 := (y (1 : Fin 3)).isLt
  have hy' : (y (2 : Fin 3)).val < 1024 := (y (2 : Fin 3)).isLt
  show fin16 B (dv ((64 * ((zc c + 1) % 4) + (y (1 : Fin 3)).val) % 256 / 64 + 3) (org (pc c) 0 _)) (at1' ((64 * ((zc c + 1) % 4) + (y (1 : Fin 3)).val) % 256 % 64) ((y (2 : Fin 3)).val % 1024))
    = fin16 B c y
  have e : dv ((64 * ((zc c + 1) % 4) + (y (1 : Fin 3)).val) % 256 / 64 + 3) (org (pc c) 0 ((64 * ((zc c + 1) % 4) + (y (1 : Fin 3)).val) % 256)) = c := by
    refine Eq.trans (dv_mod (z' := zc c) (p' := pc c) (by omega) (by unfold org; split <;> omega)) (dv_zc_pc c)
  have e1 : (64 * ((zc c + 1) % 4) + (y (1 : Fin 3)).val) % 256 % 64 = (y (1 : Fin 3)).val := by omega
  have e2 : (y (2 : Fin 3)).val % 1024 = (y (2 : Fin 3)).val := Nat.mod_eq_of_lt hy'
  rw [e1, e2, at1'_self]
  exact congrArg (fun d => fin16 B d y) e

/-! ## And so for the output -/

theorem outV_own (c : Dev nD) {R b : ℕ} (hR : R < 1024) (h : slotOf (pc c) R = 0 ∧ R % 256 / 64 = (zc c + 1) % 4) :
    outV B c (at2 R b) = fin32 B c (at64 (R % 64) b) := by
  have e : R % 1024 = R := Nat.mod_eq_of_lt hR
  show (if slotOf (pc c) (R % 1024) = 0 ∧ R % 1024 % 256 / 64 = (zc c + 1) % 4 then fin32 B c (at64 (R % 1024 % 64) (b % 1024)) else _) = _
  rw [e, if_pos h]
  refine congrArg (fin32 B c) (funext fun k => Fin.ext ?_)
  fin_cases k
  · rfl
  · exact Nat.mod_mod _ _

theorem outV_other (c : Dev nD) {R b : ℕ} (hR : R < 1024) (h : ¬(slotOf (pc c) R = 0 ∧ R % 256 / 64 = (zc c + 1) % 4)) :
    outV B c (at2 R b) = FloatOps.extf .f32 bitsLt_bf16_f32 (A4 B c (at4 (slotOf (pc c) R) (R % 256) b)) := by
  have e : R % 1024 = R := Nat.mod_eq_of_lt hR
  show (if slotOf (pc c) (R % 1024) = 0 ∧ R % 1024 % 256 / 64 = (zc c + 1) % 4 then _
    else FloatOps.extf .f32 bitsLt_bf16_f32 (A4 B c (at4 (slotOf (pc c) (R % 1024)) (R % 1024 % 256) (b % 1024)))) = _
  rw [e, if_neg h]
  refine congrArg (fun i => FloatOps.extf .f32 bitsLt_bf16_f32 (A4 B c i)) (funext fun k => Fin.ext ?_)
  fin_cases k
  · rfl
  · rfl
  · exact Nat.mod_mod _ _

/-- A stored slot widened, entry by entry. -/
theorem widen_apply {n : ℕ} (v : Vec F (⟨3, ![1, n, 1024]⟩ : Shape) .bf16) (h : (⟨3, ![1, n, 1024]⟩ : Shape).ShapeCasts ⟨2, ![n, 1024]⟩) (y : (⟨2, ![n, 1024]⟩ : Shape).Idx)
    (i : (⟨3, ![1, n, 1024]⟩ : Shape).Idx) (h1 : (i (1 : Fin 3)).val = (y (0 : Fin 2)).val) (h2 : (i (2 : Fin 3)).val = (y (1 : Fin 2)).val) :
    extf .f32 (shapeCast (⟨2, ![n, 1024]⟩ : Shape) v h) bitsLt_bf16_f32 y = FloatOps.extf .f32 bitsLt_bf16_f32 (v i) := by
  refine congrArg (FloatOps.extf .f32 bitsLt_bf16_f32) ((Idealize.ShloMosaic.shapeCast_dropUnit_apply ![n, 1024] v h y).trans (congrArg v (funext fun a => Fin.ext ?_)))
  have h0 : (i (0 : Fin 3)).val < 1 := (i (0 : Fin 3)).isLt
  fin_cases a
  · show 0 = (i (0 : Fin 3)).val; omega
  · exact h1.symm
  · exact h2.symm

theorem val_out_own (c : Dev nD) (y : S64x1024.Idx) :
    outV B c (at2 (outBase (pc c) ((zc c + 1) % 4) + (y (0 : Fin 2)).val) (y (1 : Fin 2)).val)
      = k0_pay10 (fun y => A2 B c (at4' 3 (y (1 : Fin 3)).val (y (2 : Fin 3)).val)) y := by
  rw [slot3]
  have hy : (y (0 : Fin 2)).val < 64 := (y (0 : Fin 2)).isLt
  have hp := pc_lt c; have hz := zc_lt c
  have hb : outBase (pc c) ((zc c + 1) % 4) % 64 = 0 ∧ outBase (pc c) ((zc c + 1) % 4) < 1024 ∧
      outBase (pc c) ((zc c + 1) % 4) % 256 / 64 = (zc c + 1) % 4 ∧
      outBase (pc c) ((zc c + 1) % 4) / 256 = if (zc c + 1) % 4 < 2 then (pc c + 1) % 4 else (pc c + 3) % 4 := by
    unfold outBase; split <;> omega
  rw [outV_own B c (by omega) ⟨by unfold slotOf; split <;> [(have := hb.2.2.2; rw [if_pos (by omega)] at this); (have := hb.2.2.2; rw [if_neg (by omega)] at this)] <;> omega, by omega⟩]
  have e : (outBase (pc c) ((zc c + 1) % 4) + (y (0 : Fin 2)).val) % 64 = (y (0 : Fin 2)).val := by omega
  rw [e, at64_self]; rfl

theorem val_out_plane (c : Dev nD) (r : Fin 3) (y : S64x1024.Idx) :
    outV B c (at2 (outBase (pc c) ((zc c + 4 - r.val) % 4) + (y (0 : Fin 2)).val) (y (1 : Fin 2)).val)
      = k0_pay13 (fun y => A4 B c (at4 0 (64 * ((zc c + 4 - r.val) % 4) + (y (1 : Fin 3)).val) (y (2 : Fin 3)).val)) y := by
  have hy : (y (0 : Fin 2)).val < 64 := (y (0 : Fin 2)).isLt
  have hp := pc_lt c; have hz := zc_lt c
  have hb : outBase (pc c) ((zc c + 4 - r.val) % 4) % 64 = 0 ∧ outBase (pc c) ((zc c + 4 - r.val) % 4) < 1024 ∧
      outBase (pc c) ((zc c + 4 - r.val) % 4) % 256 / 64 = (zc c + 4 - r.val) % 4 ∧
      outBase (pc c) ((zc c + 4 - r.val) % 4) / 256 = if (zc c + 4 - r.val) % 4 < 2 then (pc c + 1) % 4 else (pc c + 3) % 4 := by
    unfold outBase; split <;> omega
  have hs : slotOf (pc c) (outBase (pc c) ((zc c + 4 - r.val) % 4) + (y (0 : Fin 2)).val) = 0 := by
    unfold slotOf; split <;> [(have := hb.2.2.2; rw [if_pos (by omega)] at this); (have := hb.2.2.2; rw [if_neg (by omega)] at this)] <;> omega
  rw [outV_other B c (by omega) (by omega), hs]
  refine Eq.trans ?_ (widen_apply _ shapeCasts_S1x64x1024_S64x1024 y (at1' (y (0 : Fin 2)).val (y (1 : Fin 2)).val) (Nat.mod_eq_of_lt hy) (Nat.mod_eq_of_lt (y (1 : Fin 2)).isLt)).symm
  have e : (outBase (pc c) ((zc c + 4 - r.val) % 4) + (y (0 : Fin 2)).val) % 256 = 64 * ((zc c + 4 - r.val) % 4) + (y (0 : Fin 2)).val := by omega
  have e1 : ((at1' (y (0 : Fin 2)).val (y (1 : Fin 2)).val) (1 : Fin 3)).val = (y (0 : Fin 2)).val := Nat.mod_eq_of_lt hy
  have e2 : ((at1' (y (0 : Fin 2)).val (y (1 : Fin 2)).val) (2 : Fin 3)).val = (y (1 : Fin 2)).val := Nat.mod_eq_of_lt (y (1 : Fin 2)).isLt
  rw [e, e1, e2]

theorem val_out_top (c : Dev nD) (r : Fin 3) (y : S128x1024.Idx) :
    outV B c (at2 (256 * ((pc c + 4 - r.val) % 4) + (y (0 : Fin 2)).val) (y (1 : Fin 2)).val)
      = k0_pay16 (fun y => A4 B c (at4 (r.val + 1) (0 + (y (1 : Fin 3)).val) (y (2 : Fin 3)).val)) y := by
  have hy : (y (0 : Fin 2)).val < 128 := (y (0 : Fin 2)).isLt
  have hp := pc_lt c
  have hs : slotOf (pc c) (256 * ((pc c + 4 - r.val) % 4) + (y (0 : Fin 2)).val) = r.val + 1 := by
    unfold slotOf; rw [if_pos (by omega)]; omega
  rw [outV_other B c (by omega) (by omega), hs]
  have h1 : (y (0 : Fin 2)).val % 128 = (y (0 : Fin 2)).val := Nat.mod_eq_of_lt hy
  have h2 : (y (1 : Fin 2)).val % 1024 = (y (1 : Fin 2)).val := Nat.mod_eq_of_lt (y (1 : Fin 2)).isLt
  refine Eq.trans ?_ (widen_apply _ shapeCasts_S1x128x1024_S128x1024 y (ix (s := S1x128x1024) (by decide) ![0, (y (0 : Fin 2)).val, (y (1 : Fin 2)).val]) h1 h2).symm
  have e : (256 * ((pc c + 4 - r.val) % 4) + (y (0 : Fin 2)).val) % 256 = 0 + (y (0 : Fin 2)).val := by omega
  have e1 : ((ix (s := S1x128x1024) (by decide) ![0, (y (0 : Fin 2)).val, (y (1 : Fin 2)).val]) (1 : Fin 3)).val = (y (0 : Fin 2)).val := h1
  have e2 : ((ix (s := S1x128x1024) (by decide) ![0, (y (0 : Fin 2)).val, (y (1 : Fin 2)).val]) (2 : Fin 3)).val = (y (1 : Fin 2)).val := h2
  rw [e, e1, e2]

theorem val_out_bot (c : Dev nD) (r : Fin 3) (y : S128x1024.Idx) :
    outV B c (at2 (256 * ((pc c + r.val) % 4) + 128 + (y (0 : Fin 2)).val) (y (1 : Fin 2)).val)
      = k0_pay16 (fun y => A4 B c (at4 (r.val + 1) (128 + (y (1 : Fin 3)).val) (y (2 : Fin 3)).val)) y := by
  have hy : (y (0 : Fin 2)).val < 128 := (y (0 : Fin 2)).isLt
  have hp := pc_lt c
  have hs : slotOf (pc c) (256 * ((pc c + r.val) % 4) + 128 + (y (0 : Fin 2)).val) = r.val + 1 := by
    unfold slotOf; rw [if_neg (by omega)]; omega
  rw [outV_other B c (by omega) (by omega), hs]
  have h1 : (y (0 : Fin 2)).val % 128 = (y (0 : Fin 2)).val := Nat.mod_eq_of_lt hy
  have h2 : (y (1 : Fin 2)).val % 1024 = (y (1 : Fin 2)).val := Nat.mod_eq_of_lt (y (1 : Fin 2)).isLt
  refine Eq.trans ?_ (widen_apply _ shapeCasts_S1x128x1024_S128x1024 y (ix (s := S1x128x1024) (by decide) ![0, (y (0 : Fin 2)).val, (y (1 : Fin 2)).val]) h1 h2).symm
  have e : (256 * ((pc c + r.val) % 4) + 128 + (y (0 : Fin 2)).val) % 256 = 128 + (y (0 : Fin 2)).val := by omega
  have e1 : ((ix (s := S1x128x1024) (by decide) ![0, (y (0 : Fin 2)).val, (y (1 : Fin 2)).val]) (1 : Fin 3)).val = (y (0 : Fin 2)).val := h1
  have e2 : ((ix (s := S1x128x1024) (by decide) ![0, (y (0 : Fin 2)).val, (y (1 : Fin 2)).val]) (2 : Fin 3)).val = (y (1 : Fin 2)).val := h2
  rw [e, e1, e2]

/-- The ten stores cover the output. -/
def outRows (c : Dev nD) : Finset S1024x1024.Idx :=
  (((((((((∅ ∪ rws (outBase (pc c) ((zc c + 1) % 4)) 64) ∪ rws (outBase (pc c) ((zc c + 4 - 0) % 4)) 64) ∪ rws (outBase (pc c) ((zc c + 4 - 1) % 4)) 64)
    ∪ rws (outBase (pc c) ((zc c + 4 - 2) % 4)) 64) ∪ rws (256 * ((pc c + 4 - 0) % 4)) 128) ∪ rws (256 * ((pc c + 0) % 4) + 128) 128)
    ∪ rws (256 * ((pc c + 4 - 1) % 4)) 128) ∪ rws (256 * ((pc c + 1) % 4) + 128) 128) ∪ rws (256 * ((pc c + 4 - 2) % 4)) 128)
    ∪ rws (256 * ((pc c + 2) % 4) + 128) 128

theorem out_cover : ∀ z < 4, ∀ p < 4, ∀ R < 1024,
    (outBase p ((z + 1) % 4) ≤ R ∧ R < outBase p ((z + 1) % 4) + 64) ∨ (outBase p ((z + 4 - 0) % 4) ≤ R ∧ R < outBase p ((z + 4 - 0) % 4) + 64)
    ∨ (outBase p ((z + 4 - 1) % 4) ≤ R ∧ R < outBase p ((z + 4 - 1) % 4) + 64) ∨ (outBase p ((z + 4 - 2) % 4) ≤ R ∧ R < outBase p ((z + 4 - 2) % 4) + 64)
    ∨ (256 * ((p + 4 - 0) % 4) ≤ R ∧ R < 256 * ((p + 4 - 0) % 4) + 128) ∨ (256 * ((p + 0) % 4) + 128 ≤ R ∧ R < 256 * ((p + 0) % 4) + 128 + 128)
    ∨ (256 * ((p + 4 - 1) % 4) ≤ R ∧ R < 256 * ((p + 4 - 1) % 4) + 128) ∨ (256 * ((p + 1) % 4) + 128 ≤ R ∧ R < 256 * ((p + 1) % 4) + 128 + 128)
    ∨ (256 * ((p + 4 - 2) % 4) ≤ R ∧ R < 256 * ((p + 4 - 2) % 4) + 128) ∨ (256 * ((p + 2) % 4) + 128 ≤ R ∧ R < 256 * ((p + 2) % 4) + 128 + 128) := by
  intro z hz p hp R hR
  rcases (by omega : z = 0 ∨ z = 1 ∨ z = 2 ∨ z = 3) with rfl | rfl | rfl | rfl <;> rcases (by omega : p = 0 ∨ p = 1 ∨ p = 2 ∨ p = 3) with rfl | rfl | rfl | rfl <;>
    (simp only [outBase, Nat.reduceAdd, Nat.reduceSub, Nat.reduceMod, Nat.reduceMul, Nat.reduceLT, ↓reduceIte]; omega)

theorem outRows_eq (c : Dev nD) : outRows c = Finset.univ := by
  refine Finset.eq_univ_iff_forall.mpr fun i => ?_
  have h := out_cover _ (zc_lt c) _ (pc_lt c) _ (i (0 : Fin 2)).isLt
  unfold outRows
  simp only [Finset.mem_union, mem_rws, Finset.notMem_empty, _root_.false_or, _root_.or_assoc]
  exact h

theorem outT_all (c : Dev nD) (f : Vec F S1024x1024 .f32) : outT B c f (outRows c) = outV B c := by
  rw [outRows_eq]; exact funext fun i => if_pos (Finset.mem_univ i)

theorem outT_none (c : Dev nD) (f : Vec F S1024x1024 .f32) : outT B c f ∅ = f := funext fun i => if_neg (Finset.notMem_empty i)

end Cert.KernelIdeal.Run

end
-- ==== Proof.KernelIdeal.Pieces.lean ====
/-
# Pieces of the buffers, and the body's repeated steps

Rows of a buffer join and split; a share splits in two. Then the runs of operations the body repeats: adding the
device's own rows to what came round the ring, adding its own to what came through the planes, and copying gathered
rows to the output.
-/
module

public import proofs.«01_k».proof.Proof.KernelIdeal.Values

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (B : Blocks F)

/-! ## Joining and splitting -/

theorem halves_eq (s : ℕ) : sl s 0 256 = sl s 0 128 ∪ sl s 128 128 := by
  ext i; rw [Finset.mem_union, mem_sl, mem_sl, mem_sl]; omega

theorem halves_disj (s : ℕ) : Disjoint (sl s 0 128) (sl s 128 128) :=
  Finset.disjoint_left.mpr fun i h h' => by rw [mem_sl] at h h'; omega

theorem own1_union (c : Dev nD) {I J U : Finset S4x256x1024.Idx} {q : PosShare TreeShare} {f : Vec F S4x256x1024 .bf16} (hU : U = I ∪ J) (hd : Disjoint I J) :
    own1 c U q f ⊣⊢ iprop(own1 c I q f ∗ own1 c J q f) := by
  subst hU
  exact pointsTo_union hd

/-- A slot is its upper half rows and its lower ones. -/
theorem own1_halves (c : Dev nD) (s : ℕ) {q : PosShare TreeShare} {f : Vec F S4x256x1024 .bf16} :
    own1 c (sl s 0 256) q f ⊣⊢ iprop(own1 c (sl s 0 128) q f ∗ own1 c (sl s 128 128) q f) :=
  own1_union c (halves_eq s) (halves_disj s)

theorem own4_union (c : Dev nD) {I J U : Finset S4x256x1024.Idx} {q : PosShare TreeShare} {f : Vec F S4x256x1024 .bf16} (hU : U = I ∪ J) (hd : Disjoint I J) :
    own4 c U q f ⊣⊢ iprop(own4 c I q f ∗ own4 c J q f) := by
  subst hU
  exact pointsTo_union hd

/-- A slot is its upper half rows and its lower ones. -/
theorem own4_halves (c : Dev nD) (s : ℕ) {q : PosShare TreeShare} {f : Vec F S4x256x1024 .bf16} :
    own4 c (sl s 0 256) q f ⊣⊢ iprop(own4 c (sl s 0 128) q f ∗ own4 c (sl s 128 128) q f) :=
  own4_union c (halves_eq s) (halves_disj s)

/-- Slot 0 of the gather buffer is four pieces of 64 rows, in the order they come. -/
theorem own4_pieces (c : Dev nD) {z : ℕ} (hz : z < 4) {q : PosShare TreeShare} {f : Vec F S4x256x1024 .bf16} :
    own4 c (sl 0 0 256) q f ⊣⊢ iprop(own4 c (sl 0 (64 * ((z + 1) % 4)) 64) q f ∗ own4 c (sl 0 (64 * ((z + 4 - 0) % 4)) 64) q f
      ∗ own4 c (sl 0 (64 * ((z + 4 - 1) % 4)) 64) q f ∗ own4 c (sl 0 (64 * ((z + 4 - 2) % 4)) 64) q f) := by
  refine (own4_union c (I := sl 0 (64 * ((z + 1) % 4)) 64) (J := sl 0 (64 * ((z + 4 - 0) % 4)) 64 ∪ (sl 0 (64 * ((z + 4 - 1) % 4)) 64 ∪ sl 0 (64 * ((z + 4 - 2) % 4)) 64)) ?_ ?_).trans
    (sep_congr .rfl ((own4_union c rfl ?_).trans (sep_congr .rfl (own4_union c rfl ?_))))
  · ext i; simp only [Finset.mem_union, mem_sl]; omega
  all_goals
    refine Finset.disjoint_left.mpr fun i h h' => ?_
    simp only [Finset.mem_union, mem_sl] at h h'
    omega

/-- A share of rows of the gather buffer is its two halves. -/
theorem own4_share (c : Dev nD) {S : Finset S4x256x1024.Idx} {q : PosShare TreeShare} {f : Vec F S4x256x1024 .bf16} :
    own4 c S q f ⊣⊢ iprop(own4 c S q.left f ∗ own4 c S q.right f) := pointsTo_share (PosShare.mem_left_op_right q)

/-! ## The repeated steps -/

/-- Adding the device's own rows to what came round the ring on both sides. -/
theorem ring_add (c : Dev nD) (s : Fin 3) {o2 o3 : Fin 2 → ℕ} {o1 : Fin 3 → ℕ} (h2 : o2 = ![256 * ((pc c + 3 - s.val) % 4), 0])
    (h3 : o3 = ![256 * ((pc c + s.val + 1) % 4) + 128, 0]) (h1 : o1 = ![s.val + 1, 0, 0])
    {pay : Vec F S128x1024 .f32 → Vec F S128x1024 .f32 → Vec F S1x256x1024 .bf16 → FVec F S1x256x1024 .bf16} (hpay : pay = k0_pay3)
    {i2 i3 i1 l2 l3 l1 l1' i1' hx hl} {α : Type} {Q : α → sProp 𝕄} {k : PUnit → Prog (TpuEff nD τ sig (Elt F) Λ₀ .tc) α} :
    iprop(own0 c (accV B c) ∗ recvPay B (.r1 s) c ∗ recvPay B (.l1 s) c)
      ⊢ iprop(((own0 c (accV B c) ∗ own1 c (sl (s.val + 1) 0 256) fullShare (A1 B c)) -∗ WP c (k ⟨⟩) Q)
        -∗ WP c (.op (.load (Memref.whole cc0_scratch0) (Rect.unit (s := S1024x1024) o2 S128x1024.size i2).toLoadRect l2) fun a =>
            .op (.load (Memref.whole cc0_scratch0) (Rect.unit (s := S1024x1024) o3 S128x1024.size i3).toLoadRect l3) fun b =>
            .op (.load (Memref.whole cc0_scratch1) (Rect.unit (s := S4x256x1024) o1 S1x256x1024.size i1).toLoadRect l1) fun v =>
            .op (.load (Memref.whole cc0_scratch1) (Rect.unit (s := S4x256x1024) o1 S1x256x1024.size i1).toLoadRect l1') fun _ =>
            .op (.store (Memref.whole cc0_scratch1) (Rect.unit (s := S4x256x1024) o1 S1x256x1024.size i1') (pay a b v) Finset.univ hx hl) k) Q) := by
  subst hpay
  iintro ⟨Ha, Hr⟩ Hk
  ihave Hs := (show iprop(recvPay B (.r1 s) c ∗ recvPay B (.l1 s) c) ⊢ own1 c (sl (s.val + 1) 0 256) fullShare (R1 B c) from (own1_halves c (s.val + 1)).2) $$ Hr
  iapply (ld0 c (n := 128) h2) $$ Ha; iintro Ha
  iapply (ld0 c (n := 128) h3) $$ Ha; iintro Ha
  iapply (ld1 c (n := 256) h1 subset_rfl) $$ Hs; iintro Hs
  iapply (ld1 c (n := 256) h1 subset_rfl) $$ Hs; iintro Hs
  iapply (st1 c (n := 256) h1 (A1 B c) (val_s1 B c s)) $$ Hs; iintro Hs
  iapply Hk
  isplitl [Ha]; · iexact Ha
  iexact Hs

/-- Adding the device's own rows to what came through the planes. -/
theorem plane_add (c : Dev nD) (s : Fin 3) {o2 o1 : Fin 3 → ℕ} (h2 : o2 = ![s.val + 1, 0, 0]) (h1 : o1 = ![3, 64 * ((zc c + 3 - s.val) % 4), 0])
    {pay : Vec F S1x64x1024 .bf16 → Vec F S1x64x1024 .bf16 → FVec F S1x64x1024 .bf16} (hpay : pay = k0_pay7)
    {i2 i1 l2 l1 l2' hx hl} {α : Type} {Q : α → sProp 𝕄} {k : PUnit → Prog (TpuEff nD τ sig (Elt F) Λ₀ .tc) α} :
    iprop(own1 c (sl 3 0 256) fullShare (A1 B c) ∗ recvPay B (.g2 s) c)
      ⊢ iprop(((own1 c (sl 3 0 256) fullShare (A1 B c) ∗ own2 c (sl' (s.val + 1)) fullShare (A2 B c)) -∗ WP c (k ⟨⟩) Q)
        -∗ WP c (.op (.load (Memref.whole cc0_scratch2) (Rect.unit (s := S4x64x1024) o2 S1x64x1024.size i2).toLoadRect l2) fun a =>
            .op (.load (Memref.whole cc0_scratch1) (Rect.unit (s := S4x256x1024) o1 S1x64x1024.size i1).toLoadRect l1) fun b =>
            .op (.load (Memref.whole cc0_scratch2) (Rect.unit (s := S4x64x1024) o2 S1x64x1024.size i2).toLoadRect l2') fun _ =>
            .op (.store (Memref.whole cc0_scratch2) (Rect.unit (s := S4x64x1024) o2 S1x64x1024.size i2) (pay a b) Finset.univ hx hl) k) Q) := by
  subst hpay
  iintro ⟨Ha, Hs⟩ Hk
  ihave Hs := (Entails.of_eq (show recvPay B (.g2 s) c = own2 c (sl' (s.val + 1)) fullShare (R2 B c) from rfl)) $$ Hs
  iapply (ld2 c h2) $$ Hs; iintro Hs
  iapply (ld1 c (n := 64) h1 (fun i hi => by rw [mem_sl] at hi ⊢; omega)) $$ Ha; iintro Ha
  iapply (ld2 c h2) $$ Hs; iintro Hs
  iapply (st2 c h2 (A2 B c) (val_s2 B c s)) $$ Hs; iintro Hs
  iapply Hk
  isplitl [Ha]; · iexact Ha
  iexact Hs

/-- Copying 64 gathered rows of the own column to the output. -/
theorem plane_out (c : Dev nD) (r : Fin 3) {o1 : Fin 3 → ℕ} {o2 : Fin 2 → ℕ} (h1 : o1 = ![0, 64 * ((zc c + 4 - r.val) % 4), 0])
    (h2 : o2 = ![outBase (pc c) ((zc c + 4 - r.val) % 4), 0]) {pay : Vec F S1x64x1024 .bf16 → FVec F S64x1024 .f32} (hpay : pay = k0_pay13)
    {q : PosShare TreeShare} {f : Vec F S1024x1024 .f32} {T : Finset S1024x1024.Idx}
    {i1 i2 l1 l2 hx hl} {α : Type} {Q : α → sProp 𝕄} {k : PUnit → Prog (TpuEff nD τ sig (Elt F) Λ₀ .tc) α} :
    iprop(own4 c (sl 0 (64 * ((zc c + 4 - r.val) % 4)) 64) q (A4 B c) ∗ ownO c (outT B c f T))
      ⊢ iprop(((own4 c (sl 0 (64 * ((zc c + 4 - r.val) % 4)) 64) q (A4 B c) ∗ ownO c (outT B c f (T ∪ rws (outBase (pc c) ((zc c + 4 - r.val) % 4)) 64))) -∗ WP c (k ⟨⟩) Q)
        -∗ WP c (.op (.load (Memref.whole cc0_scratch3) (Rect.unit (s := S4x256x1024) o1 S1x64x1024.size i1).toLoadRect l1) fun v =>
            .op (.load (Memref.whole cc0_stg2_0) (Rect.unit (s := S1024x1024) o2 S64x1024.size i2).toLoadRect l2) fun _ =>
            .op (.store (Memref.whole cc0_stg2_0) (Rect.unit (s := S1024x1024) o2 S64x1024.size i2) (pay v) Finset.univ hx hl) k) Q) := by
  subst hpay
  iintro ⟨Hs, Ho⟩ Hk
  iapply (ld4 c (n := 64) h1 subset_rfl) $$ Hs; iintro Hs
  iapply (ldO c (n := 64) h2) $$ Ho; iintro Ho
  iapply (stO B c (n := 64) h2 (val_out_plane B c r)) $$ Ho; iintro Ho
  iapply Hk
  isplitl [Hs]; · iexact Hs
  iexact Ho

/-- Copying the upper half rows of a gathered slot to the output, -/
theorem top_out (c : Dev nD) (r : Fin 3) {o1 : Fin 3 → ℕ} {o2 : Fin 2 → ℕ} (h1 : o1 = ![r.val + 1, 0, 0])
    (h2 : o2 = ![256 * ((pc c + 4 - r.val) % 4), 0]) {pay : Vec F S1x128x1024 .bf16 → FVec F S128x1024 .f32} (hpay : pay = k0_pay16)
    {q : PosShare TreeShare} {f : Vec F S1024x1024 .f32} {T : Finset S1024x1024.Idx}
    {i1 i2 l1 l2 hx hl} {α : Type} {Q : α → sProp 𝕄} {k : PUnit → Prog (TpuEff nD τ sig (Elt F) Λ₀ .tc) α} :
    iprop(own4 c (sl (r.val + 1) 0 128) q (A4 B c) ∗ ownO c (outT B c f T))
      ⊢ iprop(((own4 c (sl (r.val + 1) 0 128) q (A4 B c) ∗ ownO c (outT B c f (T ∪ rws (256 * ((pc c + 4 - r.val) % 4)) 128))) -∗ WP c (k ⟨⟩) Q)
        -∗ WP c (.op (.load (Memref.whole cc0_scratch3) (Rect.unit (s := S4x256x1024) o1 S1x128x1024.size i1).toLoadRect l1) fun v =>
            .op (.load (Memref.whole cc0_stg2_0) (Rect.unit (s := S1024x1024) o2 S128x1024.size i2).toLoadRect l2) fun _ =>
            .op (.store (Memref.whole cc0_stg2_0) (Rect.unit (s := S1024x1024) o2 S128x1024.size i2) (pay v) Finset.univ hx hl) k) Q) := by
  subst hpay
  iintro ⟨Hs, Ho⟩ Hk
  iapply (ld4 c (n := 128) h1 subset_rfl) $$ Hs; iintro Hs
  iapply (ldO c (n := 128) h2) $$ Ho; iintro Ho
  iapply (stO B c (n := 128) h2 (val_out_top B c r)) $$ Ho; iintro Ho
  iapply Hk
  isplitl [Hs]; · iexact Hs
  iexact Ho

/-- and the lower ones. -/
theorem bot_out (c : Dev nD) (r : Fin 3) {o1 : Fin 3 → ℕ} {o2 : Fin 2 → ℕ} (h1 : o1 = ![r.val + 1, 128, 0])
    (h2 : o2 = ![256 * ((pc c + r.val) % 4) + 128, 0]) {pay : Vec F S1x128x1024 .bf16 → FVec F S128x1024 .f32} (hpay : pay = k0_pay16)
    {q : PosShare TreeShare} {f : Vec F S1024x1024 .f32} {T : Finset S1024x1024.Idx}
    {i1 i2 l1 l2 hx hl} {α : Type} {Q : α → sProp 𝕄} {k : PUnit → Prog (TpuEff nD τ sig (Elt F) Λ₀ .tc) α} :
    iprop(own4 c (sl (r.val + 1) 128 128) q (A4 B c) ∗ ownO c (outT B c f T))
      ⊢ iprop(((own4 c (sl (r.val + 1) 128 128) q (A4 B c) ∗ ownO c (outT B c f (T ∪ rws (256 * ((pc c + r.val) % 4) + 128) 128))) -∗ WP c (k ⟨⟩) Q)
        -∗ WP c (.op (.load (Memref.whole cc0_scratch3) (Rect.unit (s := S4x256x1024) o1 S1x128x1024.size i1).toLoadRect l1) fun v =>
            .op (.load (Memref.whole cc0_stg2_0) (Rect.unit (s := S1024x1024) o2 S128x1024.size i2).toLoadRect l2) fun _ =>
            .op (.store (Memref.whole cc0_stg2_0) (Rect.unit (s := S1024x1024) o2 S128x1024.size i2) (pay v) Finset.univ hx hl) k) Q) := by
  subst hpay
  iintro ⟨Hs, Ho⟩ Hk
  iapply (ld4 c (n := 128) h1 subset_rfl) $$ Hs; iintro Hs
  iapply (ldO c (n := 128) h2) $$ Ho; iintro Ho
  iapply (stO B c (n := 128) h2 (val_out_bot B c r)) $$ Ho; iintro Ho
  iapply Hk
  isplitl [Hs]; · iexact Hs
  iexact Ho

end Cert.KernelIdeal.Run

end
-- ==== Proof.KernelIdeal.BodyParts.lean ====
/-
# The body, part by part

The printed body comes in parts. Each lemma takes a part from what it needs of the protocol's state and of the buffers
to what it leaves: the parts of the ring's reduce-scatter, of the planes', of the gather, and the awaited departures.
-/
module

public import proofs.«01_k».proof.Proof.KernelIdeal.Pieces

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (B : Blocks F) (K : Dev nD × Option (Ch × Bool) → ℕ)

/-- A part of the body, applied to the device's buffers and semaphores. -/
abbrev onBufs {α : Sort*} (p : (arg0 : Memref sig .tc .vmem S1024x64 .bf16) → arg0.IsWhole → (arg1 : Memref sig .tc .vmem S64x1024 .bf16) → arg1.IsWhole →
    (arg2 : Memref sig .tc .vmem S1024x1024 .f32) → arg2.IsWhole → (arg3 : Memref sig .tc .vmem S1024x1024 .f32) → arg3.IsWhole →
    (arg4 : Memref sig .tc .vmem S4x256x1024 .bf16) → arg4.IsWhole → (arg5 : Memref sig .tc .vmem S4x64x1024 .bf16) → arg5.IsWhole →
    (arg6 : Memref sig .tc .vmem S4x256x1024 .bf16) → arg6.IsWhole → (arg7 arg8 arg9 arg10 arg11 arg12 arg13 arg14 arg15 arg16 arg17 arg18 : DmaSems sig S3) → α) : α :=
  p (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scratch10 cc0_scratch11
    cc0_scratch12 cc0_scratch13 cc0_scratch14 cc0_scratch15

omit B K in
/-- A part that returns. -/
theorem ret_intro {α : Type} (c : Dev nD) {a : α} {Q : α → sProp 𝕄} : Q a ⊢ WP c (.ret a) Q := by
  show Q a ⊢ wp frame (wpE defs₀ 𝒱₀ c.tc none) Set.univ (.ret a) Q
  rw [wp_ret]
  exact fupd_intro

/-- The rows that pass between the planes: where they land, in the sender's own terms. -/
theorem land_g3 (c : Dev nD) (s : Fin 3) : land (F := F) (.g3 s) (zn c) = iprop(∃ f, own4 (F := F) (zn c) (sl 0 (64 * ((zc c + 5 - s.val) % 4)) 64) fullShare f) := by
  have e : (zc (zn c) + 4 - s.val) % 4 = (zc c + 5 - s.val) % 4 := by rw [zc_zn]; omega
  rw [← e]; rfl

theorem recv_g3 (c : Dev nD) (s : Fin 3) : recvPay B (.g3 s) (zn c) = own4 (zn c) (sl 0 (64 * ((zc c + 5 - s.val) % 4)) 64) fullShare (A4 B (zn c)) := by
  have e : (zc (zn c) + 4 - s.val) % 4 = (zc c + 5 - s.val) % 4 := by rw [zc_zn]; omega
  rw [← e]; rfl

theorem issue_g3 (c : Dev nD) (s : Fin 3) {n₀ r w : ℕ} (hn : n₀ = (Ch.g3 s).ord) (hw : w ≤ (Ch.g3 s).ord) (d : Dev nD) (hd : d = zn c)
    {off off' : Fin 3 → ℕ} (ho : off = ![0, 64 * ((zc c + 5 - s.val) % 4), 0]) (ho' : off' = ![0, 64 * ((zc c + 5 - s.val) % 4), 0]) {inb inb'}
    {hsq : (⟨3, ![1, 64, 1024]⟩ : Shape).Squeezes (⟨2, ![64, 1024]⟩ : Shape)} {sS sR : DmaSem sig}
    (hsS : sS = ssem (.g3 s)) (hsR : sR = rsem (.g3 s)) {hsc hsrc hdst hsem}
    (hN : (((Memref.whole cc0_scratch3).slice (Rect.unit (s := S4x256x1024) off' (⟨3, ![1, 64, 1024]⟩ : Shape).size inb') (fun _ => rfl)).squeeze (⟨2, ![64, 1024]⟩ : Shape) hsq).view.dmaCredit = amt (.g3 s))
    {α : Type} {Q : α → sProp 𝕄} {k : PUnit → Prog (TpuEff nD τ sig (Elt F) Λ₀ .tc) α} :
    iprop(St B K n₀ r w c ∗ sendPay B (.g3 s) c)
      ⊢ iprop((St B K (n₀ + 1) r w c -∗ WP c (k ⟨⟩) Q)
          -∗ WP c (.op (.enqueueDma (((Memref.whole cc0_scratch3).slice (Rect.unit (s := S4x256x1024) off (⟨3, ![1, 64, 1024]⟩ : Shape).size inb) (fun _ => rfl)).squeeze (⟨2, ![64, 1024]⟩ : Shape) hsq)
            (.remote (Dev.tc d : Thread nD τ) (((Memref.whole cc0_scratch3).slice (Rect.unit (s := S4x256x1024) off' (⟨3, ![1, 64, 1024]⟩ : Shape).size inb') (fun _ => rfl)).squeeze (⟨2, ![64, 1024]⟩ : Shape) hsq)
              (.dma sS) hsc) (.dma sR) hsrc hdst hsem) k) Q) :=
  issue4 B K c (.g3 s) hn hw d hd _ rfl (land_g3 c s) (recv_g3 B c s) (fun _ _ _ => A4_zn B c) ho ho' hsS hsR hN

/-- A round of the ring: a half slot is sent each way, and one received; -/
theorem part3 (c : Dev nD) (v24 v28 : BitVec 32) (Q : PUnit → sProp 𝕄) :
    iprop(St B K 0 0 0 c ∗ sendPay B (.r1 0) c ∗ sendPay B (.l1 0) c)
      ⊢ iprop(((St B K 2 1 0 c ∗ recvPay B (.r1 0) c) -∗ Q ⟨⟩) -∗ WP c (onBufs (k0_part3 (F := F)) c v24 v28) Q) := by
  unfold onBufs
  rw [k0_part3_eq_skeleton]
  unfold k0_part3_skel
  simp only [Prog.lift, Prog.bind_op, Prog.bind_ret, Prog.pure_eq_ret]
  iintro ⟨HS, Ha, Hb⟩ Hk
  iapply (issue1 B K c (n₀ := 0) (.r1 0) rfl (Nat.zero_le _) _ (dev5_eq c) rfl rfl rfl (fun _ _ h => by rw [Nat.zero_add]; exact R1_top B c 0 h) rfl rfl rfl rfl rfl) $$ [HS Ha]
  · isplitl [HS]; · iexact HS
    iexact Ha
  iintro HS
  iapply (issue1 B K c (n₀ := 1) (.l1 0) rfl (Nat.zero_le _) _ (dev6_eq c) rfl rfl rfl (fun _ _ h => R1_bot B c 0 h) rfl rfl rfl rfl rfl) $$ [HS Hb]
  · isplitl [HS]; · iexact HS
    iexact Hb
  iintro HS
  iapply (wp_recv B K c (r := 0) (.r1 0) rfl (by decide) rfl rfl) $$ HS
  iintro ⟨HS, Hr⟩
  iapply (ret_intro c)
  iapply Hk
  isplitl [HS]; · iexact HS
  iexact Hr

/-- then the other, and the device's own rows are added. -/
theorem part4 (c : Dev nD) (v20 v28 : BitVec 32) (Q : PUnit → sProp 𝕄) :
    iprop(St B K 2 1 0 c ∗ recvPay B (.r1 0) c ∗ own0 c (accV B c))
      ⊢ iprop(((St B K 2 2 0 c ∗ own0 c (accV B c) ∗ own1 c (sl 1 0 256) fullShare (A1 B c)) -∗ Q ⟨⟩) -∗ WP c (onBufs (k0_part4 (F := F)) c v20 v28) Q) := by
  unfold onBufs
  rw [k0_part4_eq_skeleton]
  unfold k0_part4_skel
  simp only [Prog.lift, Prog.bind_op, Prog.bind_ret, Prog.pure_eq_ret]
  iintro ⟨HS, Hr, Ha⟩ Hk
  iapply (wp_recv B K c (r := 1) (.l1 0) rfl (by decide) rfl rfl) $$ HS
  iintro ⟨HS, Hl⟩
  iapply (ring_add B c 0 (show k0_off2 c 0#32 = _ from off2_eq c 0) (show k0_off3 c 0#32 = _ from off3_eq c 0) rfl rfl) $$ [Ha Hr Hl]
  · isplitl [Ha]; · iexact Ha
    isplitl [Hr]; · iexact Hr
    iexact Hl
  iintro ⟨Ha, Hs⟩
  iapply (ret_intro c)
  iapply Hk
  isplitl [HS]; · iexact HS
  isplitl [Ha]; · iexact Ha
  iexact Hs

theorem part5 (c : Dev nD) (v24 v28 : BitVec 32) (Q : PUnit → sProp 𝕄) :
    iprop(St B K 2 2 0 c ∗ sendPay B (.r1 1) c ∗ sendPay B (.l1 1) c)
      ⊢ iprop(((St B K 4 3 0 c ∗ recvPay B (.r1 1) c) -∗ Q ⟨⟩) -∗ WP c (onBufs (k0_part5 (F := F)) c v24 v28) Q) := by
  unfold onBufs
  rw [k0_part5_eq_skeleton]
  unfold k0_part5_skel
  simp only [Prog.lift, Prog.bind_op, Prog.bind_ret, Prog.pure_eq_ret]
  iintro ⟨HS, Ha, Hb⟩ Hk
  iapply (issue1 B K c (n₀ := 2) (.r1 1) rfl (Nat.zero_le _) _ (dev7_eq c) rfl rfl rfl (fun _ _ h => by rw [Nat.zero_add]; exact R1_top B c 1 h) rfl rfl rfl rfl rfl) $$ [HS Ha]
  · isplitl [HS]; · iexact HS
    iexact Ha
  iintro HS
  iapply (issue1 B K c (n₀ := 3) (.l1 1) rfl (Nat.zero_le _) _ (dev8_eq c) rfl rfl rfl (fun _ _ h => R1_bot B c 1 h) rfl rfl rfl rfl rfl) $$ [HS Hb]
  · isplitl [HS]; · iexact HS
    iexact Hb
  iintro HS
  iapply (wp_recv B K c (r := 2) (.r1 1) rfl (by decide) rfl rfl) $$ HS
  iintro ⟨HS, Hr⟩
  iapply (ret_intro c)
  iapply Hk
  isplitl [HS]; · iexact HS
  iexact Hr

theorem part6 (c : Dev nD) (v20 v28 : BitVec 32) (Q : PUnit → sProp 𝕄) :
    iprop(St B K 4 3 0 c ∗ recvPay B (.r1 1) c ∗ own0 c (accV B c))
      ⊢ iprop(((St B K 4 4 0 c ∗ own0 c (accV B c) ∗ own1 c (sl 2 0 256) fullShare (A1 B c)) -∗ Q ⟨⟩) -∗ WP c (onBufs (k0_part6 (F := F)) c v20 v28) Q) := by
  unfold onBufs
  rw [k0_part6_eq_skeleton]
  unfold k0_part6_skel
  simp only [Prog.lift, Prog.bind_op, Prog.bind_ret, Prog.pure_eq_ret]
  iintro ⟨HS, Hr, Ha⟩ Hk
  iapply (wp_recv B K c (r := 3) (.l1 1) rfl (by decide) rfl rfl) $$ HS
  iintro ⟨HS, Hl⟩
  iapply (ring_add B c 1 (show k0_off2 c 1#32 = _ from off2_eq c 1) (show k0_off3 c 1#32 = _ from off3_eq c 1) rfl rfl) $$ [Ha Hr Hl]
  · isplitl [Ha]; · iexact Ha
    isplitl [Hr]; · iexact Hr
    iexact Hl
  iintro ⟨Ha, Hs⟩
  iapply (ret_intro c)
  iapply Hk
  isplitl [HS]; · iexact HS
  isplitl [Ha]; · iexact Ha
  iexact Hs

theorem part7 (c : Dev nD) (v24 v28 : BitVec 32) (Q : PUnit → sProp 𝕄) :
    iprop(St B K 4 4 0 c ∗ sendPay B (.r1 2) c ∗ sendPay B (.l1 2) c)
      ⊢ iprop(((St B K 6 5 0 c ∗ recvPay B (.r1 2) c) -∗ Q ⟨⟩) -∗ WP c (onBufs (k0_part7 (F := F)) c v24 v28) Q) := by
  unfold onBufs
  rw [k0_part7_eq_skeleton]
  unfold k0_part7_skel
  simp only [Prog.lift, Prog.bind_op, Prog.bind_ret, Prog.pure_eq_ret]
  iintro ⟨HS, Ha, Hb⟩ Hk
  iapply (issue1 B K c (n₀ := 4) (.r1 2) rfl (Nat.zero_le _) _ (dev9_eq c) rfl rfl rfl (fun _ _ h => by rw [Nat.zero_add]; exact R1_top B c 2 h) rfl rfl rfl rfl rfl) $$ [HS Ha]
  · isplitl [HS]; · iexact HS
    iexact Ha
  iintro HS
  iapply (issue1 B K c (n₀ := 5) (.l1 2) rfl (Nat.zero_le _) _ (dev10_eq c) rfl rfl rfl (fun _ _ h => R1_bot B c 2 h) rfl rfl rfl rfl rfl) $$ [HS Hb]
  · isplitl [HS]; · iexact HS
    iexact Hb
  iintro HS
  iapply (wp_recv B K c (r := 4) (.r1 2) rfl (by decide) rfl rfl) $$ HS
  iintro ⟨HS, Hr⟩
  iapply (ret_intro c)
  iapply Hk
  isplitl [HS]; · iexact HS
  iexact Hr

theorem part8 (c : Dev nD) (v20 v28 : BitVec 32) (Q : (Σ' (_ : BitVec 32), BitVec 32) → sProp 𝕄) :
    iprop(St B K 6 5 0 c ∗ recvPay B (.r1 2) c ∗ own0 c (accV B c))
      ⊢ iprop((∀ v : Σ' (_ : BitVec 32), BitVec 32, (St B K 6 6 0 c ∗ own0 c (accV B c) ∗ own1 c (sl 3 0 256) fullShare (A1 B c)) -∗ Q v) -∗ WP c (onBufs (k0_part8 (F := F)) c v20 v28) Q) := by
  unfold onBufs
  rw [k0_part8_eq_skeleton]
  unfold k0_part8_skel
  simp only [Prog.lift, Prog.bind_op, Prog.bind_ret, Prog.pure_eq_ret]
  iintro ⟨HS, Hr, Ha⟩ Hk
  iapply (wp_recv B K c (r := 5) (.l1 2) rfl (by decide) rfl rfl) $$ HS
  iintro ⟨HS, Hl⟩
  iapply (ring_add B c 2 (show k0_off2 c 2#32 = _ from off2_eq c 2) (show k0_off3 c 2#32 = _ from off3_eq c 2) rfl rfl) $$ [Ha Hr Hl]
  · isplitl [Ha]; · iexact Ha
    isplitl [Hr]; · iexact Hr
    iexact Hl
  iintro ⟨Ha, Hs⟩
  iapply (ret_intro c)
  iapply Hk
  isplitl [HS]; · iexact HS
  isplitl [Ha]; · iexact Ha
  iexact Hs

/-- The planes: the first slot is stored and sent on, and the next received; -/
theorem part9 (c : Dev nD) (v19 v20 v32 v235 w : BitVec 32) (Q : (Σ' (_ : BitVec 32) (_ : BitVec 32), BitVec 32) → sProp 𝕄) :
    iprop(St B K 6 6 0 c ∗ own1 c (sl 3 0 256) fullShare (A1 B c) ∗ (∃ f, own2 c (sl' 0) fullShare f))
      ⊢ iprop((∀ v : Σ' (_ : BitVec 32) (_ : BitVec 32), BitVec 32, (St B K 7 7 0 c ∗ own1 c (sl 3 0 256) fullShare (A1 B c) ∗ recvPay B (.g2 0) c) -∗ Q v) -∗ WP c (onBufs (k0_part9 (F := F)) c v19 v20 v32 v235 w) Q) := by
  unfold onBufs
  rw [k0_part9_eq_skeleton]
  unfold k0_part9_skel
  simp only [Prog.lift, Prog.bind_op, Prog.bind_ret, Prog.pure_eq_ret]
  iintro ⟨HS, Ha, ⟨%f, Hs⟩⟩ Hk
  iapply (ld1 c (n := 64) (off4_eq c) (fun i hi => by rw [mem_sl] at hi ⊢; have := zc_lt c; omega)) $$ Ha; iintro Ha
  iapply (ld2 c rfl) $$ Hs; iintro Hs
  iapply (st2 c rfl (A2 B c) (val_s2_0 B c)) $$ Hs; iintro Hs
  ihave Hs := (show own2 c (sl' 0) fullShare (A2 B c) ⊢ sendPay B (.g2 0) c from .rfl) $$ Hs
  iapply (issue2 B K c (n₀ := 6) (.g2 0) rfl (Nat.zero_le _) _ (dev11_eq c) rfl rfl rfl (fun _ _ => R2_slot B c 0) rfl rfl rfl rfl rfl) $$ [HS Hs]
  · isplitl [HS]; · iexact HS
    iexact Hs
  iintro HS
  iapply (wp_recv B K c (r := 6) (.g2 0) rfl (by decide) rfl rfl) $$ HS
  iintro ⟨HS, Hr⟩
  iapply (ret_intro c)
  iapply Hk
  isplitl [HS]; · iexact HS
  isplitl [Ha]; · iexact Ha
  iexact Hr

/-- the device's own rows are added and the slot is sent on, twice, -/
theorem part10 (c : Dev nD) (v19 v32 w : BitVec 32) (Q : PUnit → sProp 𝕄) :
    iprop(St B K 7 7 0 c ∗ own1 c (sl 3 0 256) fullShare (A1 B c) ∗ recvPay B (.g2 0) c)
      ⊢ iprop(((St B K 8 7 0 c ∗ own1 c (sl 3 0 256) fullShare (A1 B c)) -∗ Q ⟨⟩) -∗ WP c (onBufs (k0_part10 (F := F)) c v19 v32 w) Q) := by
  unfold onBufs
  rw [k0_part10_eq_skeleton]
  unfold k0_part10_skel
  simp only [Prog.lift, Prog.bind_op, Prog.bind_ret, Prog.pure_eq_ret]
  iintro ⟨HS, Ha, Hr⟩ Hk
  iapply (plane_add B c 0 rfl (show k0_off5 c 0#32 = _ from off5_eq c 0) rfl) $$ [Ha Hr]
  · isplitl [Ha]; · iexact Ha
    iexact Hr
  iintro ⟨Ha, Hs⟩
  ihave Hs := (show own2 c (sl' ((0 : Fin 3).val + 1)) fullShare (A2 B c) ⊢ sendPay B (.g2 1) c from .rfl) $$ Hs
  iapply (issue2 B K c (n₀ := 7) (.g2 1) rfl (Nat.zero_le _) _ (dev12_eq c) rfl rfl rfl (fun _ _ => R2_slot B c 1) rfl rfl rfl rfl rfl) $$ [HS Hs]
  · isplitl [HS]; · iexact HS
    iexact Hs
  iintro HS
  iapply (ret_intro c)
  iapply Hk
  isplitl [HS]; · iexact HS
  iexact Ha

theorem part11 (c : Dev nD) (v19 v32 : BitVec 32) (Q : PUnit → sProp 𝕄) :
    iprop(St B K 8 7 0 c ∗ own1 c (sl 3 0 256) fullShare (A1 B c))
      ⊢ iprop(((St B K 9 8 0 c ∗ own1 c (sl 3 0 256) fullShare (A1 B c)) -∗ Q ⟨⟩) -∗ WP c (onBufs (k0_part11 (F := F)) c v19 v32) Q) := by
  unfold onBufs
  rw [k0_part11_eq_skeleton]
  unfold k0_part11_skel
  simp only [Prog.lift, Prog.bind_op, Prog.bind_ret, Prog.pure_eq_ret]
  iintro ⟨HS, Ha⟩ Hk
  iapply (wp_recv B K c (r := 7) (.g2 1) rfl (by decide) rfl rfl) $$ HS
  iintro ⟨HS, Hr⟩
  iapply (plane_add B c 1 rfl (show k0_off5 c 1#32 = _ from off5_eq c 1) rfl) $$ [Ha Hr]
  · isplitl [Ha]; · iexact Ha
    iexact Hr
  iintro ⟨Ha, Hs⟩
  ihave Hs := (show own2 c (sl' ((1 : Fin 3).val + 1)) fullShare (A2 B c) ⊢ sendPay B (.g2 2) c from .rfl) $$ Hs
  iapply (issue2 B K c (n₀ := 8) (.g2 2) rfl (Nat.zero_le _) _ (dev13_eq c) rfl rfl rfl (fun _ _ => R2_slot B c 2) rfl rfl rfl rfl rfl) $$ [HS Hs]
  · isplitl [HS]; · iexact HS
    iexact Hs
  iintro HS
  iapply (ret_intro c)
  iapply Hk
  isplitl [HS]; · iexact HS
  iexact Ha

/-- and a third time: the rows are finished. -/
theorem part12 (c : Dev nD) (v19 v32 : BitVec 32) (Q : (Σ' (_ : BitVec 32) (_ : FVec F S64x1024 .f32) (_ : FVec F S64x1024 .bf16), BitVec 32) → sProp 𝕄) :
    iprop(St B K 9 8 0 c ∗ own1 c (sl 3 0 256) fullShare (A1 B c))
      ⊢ iprop((∀ v w, (St B K 9 9 0 c ∗ own1 c (sl 3 0 256) fullShare (A1 B c) ∗ own2 c (sl' 3) fullShare (A2 B c)) -∗ Q ⟨v, k0_pay10 (fun y : S1x64x1024.Idx => A2 B c (at4' 3 (y (1 : Fin 3)).val (y (2 : Fin 3)).val)),
        k0_pay11 (fun y : S1x64x1024.Idx => A2 B c (at4' 3 (y (1 : Fin 3)).val (y (2 : Fin 3)).val)), w⟩) -∗ WP c (onBufs (k0_part12 (F := F)) c v19 v32) Q) := by
  unfold onBufs
  rw [k0_part12_eq_skeleton]
  unfold k0_part12_skel
  simp only [Prog.lift, Prog.bind_op, Prog.bind_ret, Prog.pure_eq_ret]
  iintro ⟨HS, Ha⟩ Hk
  iapply (wp_recv B K c (r := 8) (.g2 2) rfl (by decide) rfl rfl) $$ HS
  iintro ⟨HS, Hr⟩
  iapply (plane_add B c 2 rfl (show k0_off5 c 2#32 = _ from off5_eq c 2) rfl) $$ [Ha Hr]
  · isplitl [Ha]; · iexact Ha
    iexact Hr
  iintro ⟨Ha, Hs⟩
  ihave Hs := (show own2 c (sl' ((2 : Fin 3).val + 1)) fullShare (A2 B c) ⊢ own2 c (sl' 3) fullShare (A2 B c) from .rfl) $$ Hs
  iapply (ld2 c rfl) $$ Hs; iintro Hs
  iapply (ret_intro c)
  iapply Hk
  isplitl [HS]; · iexact HS
  isplitl [Ha]; · iexact Ha
  iexact Hs

/-- The gather: the finished rows go to the output and to the next plane, which sends them on; -/
theorem part13 (c : Dev nD) (v32 v236 v238 v349 w : BitVec 32) (f : Vec F S1024x1024 .f32) (Q : PUnit → sProp 𝕄) :
    iprop(St B K 9 9 0 c ∗ (∃ g, own4 c (sl 0 (64 * ((zc c + 1) % 4)) 64) fullShare g) ∗ ownO c (outT B c f (∅)))
      ⊢ iprop(((St B K 10 10 0 c ∗ own4 c (sl 0 (64 * ((zc c + 1) % 4)) 64) fullShare.left (A4 B c) ∗ own4 c (sl 0 (64 * ((zc c + 1) % 4)) 64) fullShare.right.right (A4 B c) ∗ recvPay B (.g3 0) c ∗ ownO c (outT B c f (∅ ∪ rws (outBase (pc c) ((zc c + 1) % 4)) 64))) -∗ Q ⟨⟩) -∗ WP c (onBufs (k0_part13 (F := F)) c v32 v236 v238 v349 (k0_pay10 (fun y : S1x64x1024.Idx => A2 B c (at4' 3 (y (1 : Fin 3)).val (y (2 : Fin 3)).val))) (k0_pay11 (fun y : S1x64x1024.Idx => A2 B c (at4' 3 (y (1 : Fin 3)).val (y (2 : Fin 3)).val))) w) Q) := by
  unfold onBufs
  rw [k0_part13_eq_skeleton]
  unfold k0_part13_skel
  simp only [Prog.lift, Prog.bind_op, Prog.bind_ret, Prog.pure_eq_ret]
  iintro ⟨HS, ⟨%g, Hs⟩, Ho⟩ Hk
  iapply (ld4 c (n := 64) (off6_eq c) subset_rfl) $$ Hs; iintro Hs
  iapply (st4 c (n := 64) (off6_eq c) (A4 B c) (val_s4 B c)) $$ Hs; iintro Hs
  ihave Hs := (own4_share c).1 $$ Hs
  icases Hs with ⟨HL, HR⟩
  ihave HR := (own4_share c).1 $$ HR
  icases HR with ⟨HRL, HRR⟩
  ihave HRL := (Entails.of_eq (congrArg (fun b => own4 c (sl 0 (64 * b) 64) fullShare.right.left (A4 B c)) (show (zc c + 1) % 4 = (zc c + 5 - (0 : Fin 3).val) % 4 from (by show _ = (zc c + 5 - 0) % 4; omega)))) $$ HRL
  ihave HRL := (show own4 c (sl 0 (64 * ((zc c + 5 - (0 : Fin 3).val) % 4)) 64) fullShare.right.left (A4 B c) ⊢ sendPay B (.g3 0) c from .rfl) $$ HRL
  iapply (issue_g3 B K c (n₀ := 9) 0 rfl (Nat.zero_le _) _ (dev14_eq c) ((off7_eq c).trans (by rw [show (zc c + 1) % 4 = (zc c + 5 - (0 : Fin 3).val) % 4 from (by show _ = (zc c + 5 - 0) % 4; omega)])) ((off7_eq c).trans (by rw [show (zc c + 1) % 4 = (zc c + 5 - (0 : Fin 3).val) % 4 from (by show _ = (zc c + 5 - 0) % 4; omega)])) rfl rfl rfl) $$ [HS HRL]
  · isplitl [HS]; · iexact HS
    iexact HRL
  iintro HS
  iapply (ldO c (n := 64) (off8_eq c)) $$ Ho; iintro Ho
  iapply (stO B c (n := 64) (off8_eq c) (val_out_own B c)) $$ Ho; iintro Ho
  iapply (wp_recv B K c (r := 9) (.g3 0) rfl (by decide) rfl rfl) $$ HS
  iintro ⟨HS, Hr⟩
  iapply (ret_intro c)
  iapply Hk
  isplitl [HS]; · iexact HS
  isplitl [HL]; · iexact HL
  isplitl [HRR]; · iexact HRR
  isplitl [Hr]; · iexact Hr
  iexact Ho

/-- every piece received goes to the output too, -/
theorem part14 (c : Dev nD) (v19 v32 v236 v238 : BitVec 32) (f : Vec F S1024x1024 .f32) (T : Finset S1024x1024.Idx) (Q : PUnit → sProp 𝕄) :
    iprop(St B K 10 10 0 c ∗ recvPay B (.g3 0) c ∗ ownO c (outT B c f (T)))
      ⊢ iprop(((St B K 11 10 0 c ∗ own4 c (sl 0 (64 * ((zc c + 4 - 0) % 4)) 64) fullShare.left (A4 B c) ∗ own4 c (sl 0 (64 * ((zc c + 4 - 0) % 4)) 64) fullShare.right.right (A4 B c) ∗ ownO c (outT B c f (T ∪ rws (outBase (pc c) ((zc c + 4 - 0) % 4)) 64))) -∗ Q ⟨⟩) -∗ WP c (onBufs (k0_part14 (F := F)) c v19 v32 v236 v238) Q) := by
  unfold onBufs
  rw [k0_part14_eq_skeleton]
  unfold k0_part14_skel
  simp only [Prog.lift, Prog.bind_op, Prog.bind_ret, Prog.pure_eq_ret]
  iintro ⟨HS, Hr, Ho⟩ Hk
  ihave Hs := (Entails.of_eq (show recvPay B (.g3 0) c = own4 c (sl 0 (64 * ((zc c + 4 - 0) % 4)) 64) fullShare (A4 B c) from rfl)) $$ Hr
  ihave Hs := (own4_share c).1 $$ Hs
  icases Hs with ⟨HL, HR⟩
  ihave HR := (own4_share c).1 $$ HR
  icases HR with ⟨HRL, HRR⟩
  ihave HRL := (show own4 c (sl 0 (64 * ((zc c + 4 - 0) % 4)) 64) fullShare.right.left (A4 B c) ⊢ sendPay B (.g3 1) c from .rfl) $$ HRL
  iapply (issue_g3 B K c (n₀ := 10) 1 rfl (Nat.zero_le _) _ (dev15_eq c) (show k0_off9 c 0#32 = _ from off9_eq c 0) (show k0_off9 c 0#32 = _ from off9_eq c 0) rfl rfl rfl) $$ [HS HRL]
  · isplitl [HS]; · iexact HS
    iexact HRL
  iintro HS
  iapply (plane_out B c 0 (show k0_off10 c 0#32 = _ from off10_eq c 0) (show k0_off11 c 0#32 = _ from off11_eq c 0) rfl) $$ [HRR Ho]
  · isplitl [HRR]; · iexact HRR
    iexact Ho
  iintro ⟨HRR, Ho⟩
  iapply (ret_intro c)
  iapply Hk
  isplitl [HS]; · iexact HS
  isplitl [HL]; · iexact HL
  isplitl [HRR]; · iexact HRR
  iexact Ho

theorem part15 (c : Dev nD) (v19 v32 v236 v238 : BitVec 32) (f : Vec F S1024x1024 .f32) (T : Finset S1024x1024.Idx) (Q : PUnit → sProp 𝕄) :
    iprop(St B K 11 10 0 c ∗ ownO c (outT B c f (T)))
      ⊢ iprop(((St B K 12 11 0 c ∗ own4 c (sl 0 (64 * ((zc c + 4 - 1) % 4)) 64) fullShare.left (A4 B c) ∗ own4 c (sl 0 (64 * ((zc c + 4 - 1) % 4)) 64) fullShare.right.right (A4 B c) ∗ ownO c (outT B c f (T ∪ rws (outBase (pc c) ((zc c + 4 - 1) % 4)) 64))) -∗ Q ⟨⟩) -∗ WP c (onBufs (k0_part15 (F := F)) c v19 v32 v236 v238) Q) := by
  unfold onBufs
  rw [k0_part15_eq_skeleton]
  unfold k0_part15_skel
  simp only [Prog.lift, Prog.bind_op, Prog.bind_ret, Prog.pure_eq_ret]
  iintro ⟨HS, Ho⟩ Hk
  iapply (wp_recv B K c (r := 10) (.g3 1) rfl (by decide) rfl rfl) $$ HS
  iintro ⟨HS, Hr⟩
  ihave Hs := (Entails.of_eq (show recvPay B (.g3 1) c = own4 c (sl 0 (64 * ((zc c + 4 - 1) % 4)) 64) fullShare (A4 B c) from rfl)) $$ Hr
  ihave Hs := (own4_share c).1 $$ Hs
  icases Hs with ⟨HL, HR⟩
  ihave HR := (own4_share c).1 $$ HR
  icases HR with ⟨HRL, HRR⟩
  ihave HRL := (show own4 c (sl 0 (64 * ((zc c + 4 - 1) % 4)) 64) fullShare.right.left (A4 B c) ⊢ sendPay B (.g3 2) c from .rfl) $$ HRL
  iapply (issue_g3 B K c (n₀ := 11) 2 rfl (Nat.zero_le _) _ (dev16_eq c) (show k0_off9 c 1#32 = _ from off9_eq c 1) (show k0_off9 c 1#32 = _ from off9_eq c 1) rfl rfl rfl) $$ [HS HRL]
  · isplitl [HS]; · iexact HS
    iexact HRL
  iintro HS
  iapply (plane_out B c 1 (show k0_off10 c 1#32 = _ from off10_eq c 1) (show k0_off11 c 1#32 = _ from off11_eq c 1) rfl) $$ [HRR Ho]
  · isplitl [HRR]; · iexact HRR
    iexact Ho
  iintro ⟨HRR, Ho⟩
  iapply (ret_intro c)
  iapply Hk
  isplitl [HS]; · iexact HS
  isplitl [HL]; · iexact HL
  isplitl [HRR]; · iexact HRR
  iexact Ho

/-- and once a column's rows are complete, half of them goes each way round the ring. -/
theorem part16 (c : Dev nD) (v19 v24 v28 : BitVec 32) (Q : BitVec 32 → sProp 𝕄) :
    iprop(St B K 12 11 0 c ∗ own4 c (sl 0 (64 * ((zc c + 1) % 4)) 64) fullShare.left (A4 B c) ∗ own4 c (sl 0 (64 * ((zc c + 4 - 0) % 4)) 64) fullShare.left (A4 B c) ∗ own4 c (sl 0 (64 * ((zc c + 4 - 1) % 4)) 64) fullShare.left (A4 B c))
      ⊢ iprop((∀ v, (St B K 14 12 0 c ∗ own4 c (sl 0 (64 * ((zc c + 4 - 2) % 4)) 64) fullShare.right (A4 B c)) -∗ Q v) -∗ WP c (onBufs (k0_part16 (F := F)) c v19 v24 v28) Q) := by
  unfold onBufs
  rw [k0_part16_eq_skeleton]
  unfold k0_part16_skel
  simp only [Prog.lift, Prog.bind_op, Prog.bind_ret, Prog.pure_eq_ret]
  iintro ⟨HS, Ha, Hb, Hc⟩ Hk
  iapply (wp_recv B K c (r := 11) (.g3 2) rfl (by decide) rfl rfl) $$ HS
  iintro ⟨HS, Hr⟩
  ihave Hs := (Entails.of_eq (show recvPay B (.g3 2) c = own4 c (sl 0 (64 * ((zc c + 4 - 2) % 4)) 64) fullShare (A4 B c) from rfl)) $$ Hr
  ihave Hs := (own4_share c).1 $$ Hs
  icases Hs with ⟨HL, HR⟩
  ihave Hw := (own4_pieces c (zc_lt c)).2 $$ [Ha Hb Hc HL]
  · isplitl [Ha]; · iexact Ha
    isplitl [Hb]; · iexact Hb
    isplitl [Hc]; · iexact Hc
    iexact HL
  ihave Hw := (own4_halves c 0).1 $$ Hw
  icases Hw with ⟨Ht, Hu⟩
  ihave Ht := (show own4 c (sl 0 0 128) fullShare.left (A4 B c) ⊢ sendPay B (.r4 0) c from .rfl) $$ Ht
  ihave Hu := (show own4 c (sl 0 128 128) fullShare.left (A4 B c) ⊢ sendPay B (.l4 0) c from .rfl) $$ Hu
  iapply (issue4 B K c (n₀ := 12) (.r4 0) rfl (Nat.zero_le _) _ (dev17_eq c) _ rfl rfl rfl (fun _ _ h => by rw [Nat.zero_add]; exact A4_rt B c 0 h) rfl rfl rfl rfl rfl) $$ [HS Ht]
  · isplitl [HS]; · iexact HS
    iexact Ht
  iintro HS
  iapply (issue4 B K c (n₀ := 13) (.l4 0) rfl (Nat.zero_le _) _ (dev18_eq c) _ rfl rfl rfl (fun _ _ h => A4_lf B c 0 h) rfl rfl rfl rfl rfl) $$ [HS Hu]
  · isplitl [HS]; · iexact HS
    iexact Hu
  iintro HS
  iapply (ret_intro c)
  iapply Hk
  isplitl [HS]; · iexact HS
  iexact HR

theorem part17 (c : Dev nD) (v24 v28 v236 v238 v458 : BitVec 32) (f : Vec F S1024x1024 .f32) (T : Finset S1024x1024.Idx) (Q : BitVec 32 → sProp 𝕄) :
    iprop(St B K 14 12 0 c ∗ own4 c (sl 0 (64 * ((zc c + 4 - 2) % 4)) 64) fullShare.right (A4 B c) ∗ ownO c (outT B c f (T)))
      ⊢ iprop((∀ v, (St B K 14 14 0 c ∗ own4 c (sl 0 (64 * ((zc c + 4 - 2) % 4)) 64) fullShare.right (A4 B c) ∗ recvPay B (.r4 0) c ∗ recvPay B (.l4 0) c ∗ ownO c (outT B c f (T ∪ rws (outBase (pc c) ((zc c + 4 - 2) % 4)) 64))) -∗ Q v) -∗ WP c (onBufs (k0_part17 (F := F)) c v24 v28 v236 v238 v458) Q) := by
  unfold onBufs
  rw [k0_part17_eq_skeleton]
  unfold k0_part17_skel
  simp only [Prog.lift, Prog.bind_op, Prog.bind_ret, Prog.pure_eq_ret]
  iintro ⟨HS, HR, Ho⟩ Hk
  iapply (plane_out B c 2 (show k0_off10 c 2#32 = _ from off10_eq c 2) (show k0_off11 c 2#32 = _ from off11_eq c 2) rfl) $$ [HR Ho]
  · isplitl [HR]; · iexact HR
    iexact Ho
  iintro ⟨HR, Ho⟩
  iapply (wp_recv B K c (r := 12) (.r4 0) rfl (by decide) rfl rfl) $$ HS
  iintro ⟨HS, Hr⟩
  iapply (wp_recv B K c (r := 13) (.l4 0) rfl (by decide) rfl rfl) $$ HS
  iintro ⟨HS, Hl⟩
  iapply (ret_intro c)
  iapply Hk
  isplitl [HS]; · iexact HS
  isplitl [HR]; · iexact HR
  isplitl [Hr]; · iexact Hr
  isplitl [Hl]; · iexact Hl
  iexact Ho

/-- Received half slots are sent on and copied to the output, -/
theorem part18 (c : Dev nD) (v20 v28 v507 : BitVec 32) (f : Vec F S1024x1024 .f32) (T : Finset S1024x1024.Idx) (Q : BitVec 32 → sProp 𝕄) :
    iprop(St B K 14 14 0 c ∗ recvPay B (.r4 0) c ∗ recvPay B (.l4 0) c ∗ ownO c (outT B c f (T)))
      ⊢ iprop((∀ v, (St B K 16 14 0 c ∗ own4 c (sl 1 0 128) fullShare.right (A4 B c) ∗ own4 c (sl 1 128 128) fullShare.right (A4 B c) ∗ ownO c (outT B c f (T ∪ rws (256 * ((pc c + 4 - 0) % 4)) 128))) -∗ Q v) -∗ WP c (onBufs (k0_part18 (F := F)) c v20 v28 v507) Q) := by
  unfold onBufs
  rw [k0_part18_eq_skeleton]
  unfold k0_part18_skel
  simp only [Prog.lift, Prog.bind_op, Prog.bind_ret, Prog.pure_eq_ret]
  iintro ⟨HS, Hr, Hl, Ho⟩ Hk
  ihave Hr := (show recvPay B (.r4 0) c ⊢ iprop(sendPay B (.r4 1) c ∗ own4 c (sl 1 0 128) fullShare.right (A4 B c)) from (own4_share c).1) $$ Hr
  icases Hr with ⟨Ht, Hr⟩
  ihave Hl := (show recvPay B (.l4 0) c ⊢ iprop(sendPay B (.l4 1) c ∗ own4 c (sl 1 128 128) fullShare.right (A4 B c)) from (own4_share c).1) $$ Hl
  icases Hl with ⟨Hu, Hl⟩
  iapply (issue4 B K c (n₀ := 14) (.r4 1) rfl (Nat.zero_le _) _ (dev19_eq c) _ rfl rfl rfl (fun _ _ h => by rw [Nat.zero_add]; exact A4_rt B c 1 h) rfl rfl rfl rfl rfl) $$ [HS Ht]
  · isplitl [HS]; · iexact HS
    iexact Ht
  iintro HS
  iapply (issue4 B K c (n₀ := 15) (.l4 1) rfl (Nat.zero_le _) _ (dev20_eq c) _ rfl rfl rfl (fun _ _ h => A4_lf B c 1 h) rfl rfl rfl rfl rfl) $$ [HS Hu]
  · isplitl [HS]; · iexact HS
    iexact Hu
  iintro HS
  iapply (top_out B c 0 rfl (show k0_off12 c 0#32 = _ from off12_eq c 0) rfl) $$ [Hr Ho]
  · isplitl [Hr]; · iexact Hr
    iexact Ho
  iintro ⟨Hr, Ho⟩
  iapply (ret_intro c)
  iapply Hk
  isplitl [HS]; · iexact HS
  isplitl [Hr]; · iexact Hr
  isplitl [Hl]; · iexact Hl
  iexact Ho

theorem part19 (c : Dev nD) (v24 v28 v531 : BitVec 32) (f : Vec F S1024x1024 .f32) (T : Finset S1024x1024.Idx) (Q : PUnit → sProp 𝕄) :
    iprop(St B K 16 14 0 c ∗ own4 c (sl 1 128 128) fullShare.right (A4 B c) ∗ ownO c (outT B c f (T)))
      ⊢ iprop(((St B K 16 16 0 c ∗ own4 c (sl 1 128 128) fullShare.right (A4 B c) ∗ recvPay B (.r4 1) c ∗ recvPay B (.l4 1) c ∗ ownO c (outT B c f (T ∪ rws (256 * ((pc c + 0) % 4) + 128) 128))) -∗ Q ⟨⟩) -∗ WP c (onBufs (k0_part19 (F := F)) c v24 v28 v531) Q) := by
  unfold onBufs
  rw [k0_part19_eq_skeleton]
  unfold k0_part19_skel
  simp only [Prog.lift, Prog.bind_op, Prog.bind_ret, Prog.pure_eq_ret]
  iintro ⟨HS, Hl, Ho⟩ Hk
  iapply (bot_out B c 0 rfl (show k0_off13 c 0#32 = _ from off13_eq c 0) rfl) $$ [Hl Ho]
  · isplitl [Hl]; · iexact Hl
    iexact Ho
  iintro ⟨Hl, Ho⟩
  iapply (wp_recv B K c (r := 14) (.r4 1) rfl (by decide) rfl rfl) $$ HS
  iintro ⟨HS, Hr⟩
  iapply (wp_recv B K c (r := 15) (.l4 1) rfl (by decide) rfl rfl) $$ HS
  iintro ⟨HS, Hm⟩
  iapply (ret_intro c)
  iapply Hk
  isplitl [HS]; · iexact HS
  isplitl [Hl]; · iexact Hl
  isplitl [Hr]; · iexact Hr
  isplitl [Hm]; · iexact Hm
  iexact Ho

theorem part20 (c : Dev nD) (v20 v28 : BitVec 32) (f : Vec F S1024x1024 .f32) (T : Finset S1024x1024.Idx) (Q : (Σ' (_ : BitVec 32), FVec F S128x1024 .f32) → sProp 𝕄) :
    iprop(St B K 16 16 0 c ∗ recvPay B (.r4 1) c ∗ recvPay B (.l4 1) c ∗ ownO c (outT B c f (T)))
      ⊢ iprop((∀ v, (St B K 18 16 0 c ∗ own4 c (sl 2 0 128) fullShare.right (A4 B c) ∗ own4 c (sl 2 128 128) fullShare.right (A4 B c) ∗ ownO c (outT B c f (T ∪ rws (256 * ((pc c + 4 - 1) % 4)) 128))) -∗ Q ⟨v, k0_pay19 (fun y : S1x128x1024.Idx => A4 B c (at4 2 (128 + (y (1 : Fin 3)).val) (y (2 : Fin 3)).val))⟩) -∗ WP c (onBufs (k0_part20 (F := F)) c v20 v28) Q) := by
  unfold onBufs
  rw [k0_part20_eq_skeleton]
  unfold k0_part20_skel
  simp only [Prog.lift, Prog.bind_op, Prog.bind_ret, Prog.pure_eq_ret]
  iintro ⟨HS, Hr, Hl, Ho⟩ Hk
  ihave Hr := (show recvPay B (.r4 1) c ⊢ iprop(sendPay B (.r4 2) c ∗ own4 c (sl 2 0 128) fullShare.right (A4 B c)) from (own4_share c).1) $$ Hr
  icases Hr with ⟨Ht, Hr⟩
  ihave Hl := (show recvPay B (.l4 1) c ⊢ iprop(sendPay B (.l4 2) c ∗ own4 c (sl 2 128 128) fullShare.right (A4 B c)) from (own4_share c).1) $$ Hl
  icases Hl with ⟨Hu, Hl⟩
  iapply (issue4 B K c (n₀ := 16) (.r4 2) rfl (Nat.zero_le _) _ (dev21_eq c) _ rfl rfl rfl (fun _ _ h => by rw [Nat.zero_add]; exact A4_rt B c 2 h) rfl rfl rfl rfl rfl) $$ [HS Ht]
  · isplitl [HS]; · iexact HS
    iexact Ht
  iintro HS
  iapply (issue4 B K c (n₀ := 17) (.l4 2) rfl (Nat.zero_le _) _ (dev22_eq c) _ rfl rfl rfl (fun _ _ h => A4_lf B c 2 h) rfl rfl rfl rfl rfl) $$ [HS Hu]
  · isplitl [HS]; · iexact HS
    iexact Hu
  iintro HS
  iapply (top_out B c 1 rfl (show k0_off12 c 1#32 = _ from off12_eq c 1) rfl) $$ [Hr Ho]
  · isplitl [Hr]; · iexact Hr
    iexact Ho
  iintro ⟨Hr, Ho⟩
  iapply (ld4 c (n := 128) rfl subset_rfl) $$ Hl; iintro Hl
  iapply (ret_intro c)
  iapply Hk
  isplitl [HS]; · iexact HS
  isplitl [Hr]; · iexact Hr
  isplitl [Hl]; · iexact Hl
  iexact Ho

theorem part21 (c : Dev nD) (v20 v24 v28 v585 : BitVec 32) (f : Vec F S1024x1024 .f32) (T : Finset S1024x1024.Idx) (Q : (Σ' (_ : BitVec 32) (_ : BitVec 32), Vec F S1x128x1024 .bf16) → sProp 𝕄) :
    iprop(St B K 18 16 0 c ∗ ownO c (outT B c f (T)))
      ⊢ iprop((∀ v w, (St B K 18 18 0 c ∗ own4 c (sl 3 0 128) fullShare (A4 B c) ∗ own4 c (sl 3 128 128) fullShare (A4 B c) ∗ ownO c (outT B c f (T ∪ rws (256 * ((pc c + 1) % 4) + 128) 128))) -∗ Q ⟨v, w, (fun y : S1x128x1024.Idx => A4 B c (at4 3 (0 + (y (1 : Fin 3)).val) (y (2 : Fin 3)).val))⟩) -∗ WP c (onBufs (k0_part21 (F := F)) c v20 v24 v28 v585 (k0_pay19 (fun y : S1x128x1024.Idx => A4 B c (at4 2 (128 + (y (1 : Fin 3)).val) (y (2 : Fin 3)).val)))) Q) := by
  unfold onBufs
  rw [k0_part21_eq_skeleton]
  unfold k0_part21_skel
  simp only [Prog.lift, Prog.bind_op, Prog.bind_ret, Prog.pure_eq_ret]
  iintro ⟨HS, Ho⟩ Hk
  iapply (ldO c (n := 128) (show k0_off13 c 1#32 = _ from off13_eq c 1)) $$ Ho; iintro Ho
  iapply (stO B c (n := 128) (show k0_off13 c 1#32 = _ from off13_eq c 1) (val_out_bot B c 1)) $$ Ho; iintro Ho
  iapply (wp_recv B K c (r := 16) (.r4 2) rfl (by decide) rfl rfl) $$ HS
  iintro ⟨HS, Hr⟩
  iapply (wp_recv B K c (r := 17) (.l4 2) rfl (by decide) rfl rfl) $$ HS
  iintro ⟨HS, Hl⟩
  ihave Hl := (show recvPay B (.l4 2) c ⊢ own4 c (sl 3 128 128) fullShare (A4 B c) from .rfl) $$ Hl
  ihave Hr := (Entails.of_eq (show recvPay B (.r4 2) c = own4 c (sl 3 0 128) fullShare (A4 B c) from rfl)) $$ Hr
  iapply (ld4 c (n := 128) rfl subset_rfl) $$ Hr; iintro Hr
  iapply (ret_intro c)
  iapply Hk
  isplitl [HS]; · iexact HS
  isplitl [Hr]; · iexact Hr
  isplitl [Hl]; · iexact Hl
  iexact Ho

/-- until the output is complete. Then the device's own transfers are seen to leave. -/
theorem part22 (c : Dev nD) (v617 v619 : BitVec 32) (f : Vec F S1024x1024 .f32) (T : Finset S1024x1024.Idx) (Q : PUnit → sProp 𝕄) :
    iprop(St B K 18 18 0 c ∗ own4 c (sl 3 128 128) fullShare (A4 B c) ∗ ownO c (outT B c f (T)))
      ⊢ iprop(((St B K 18 18 2 c ∗ own4 c (sl 3 128 128) fullShare (A4 B c) ∗ ownO c (outT B c f ((T ∪ rws (256 * ((pc c + 4 - 2) % 4)) 128) ∪ rws (256 * ((pc c + 2) % 4) + 128) 128)) ∗ sendPay B (.r1 0) c ∗ sendPay B (.l1 0) c) -∗ Q ⟨⟩) -∗ WP c (onBufs (k0_part22 (F := F)) c v617 v619 (fun y : S1x128x1024.Idx => A4 B c (at4 3 (0 + (y (1 : Fin 3)).val) (y (2 : Fin 3)).val))) Q) := by
  unfold onBufs
  rw [k0_part22_eq_skeleton]
  unfold k0_part22_skel
  simp only [Prog.lift, Prog.bind_op, Prog.bind_ret, Prog.pure_eq_ret]
  iintro ⟨HS, Hl, Ho⟩ Hk
  iapply (ldO c (n := 128) (show k0_off12 c 2#32 = _ from off12_eq c 2)) $$ Ho; iintro Ho
  iapply (stO B c (n := 128) (show k0_off12 c 2#32 = _ from off12_eq c 2) (val_out_top B c 2)) $$ Ho; iintro Ho
  iapply (bot_out B c 2 rfl (show k0_off13 c 2#32 = _ from off13_eq c 2) rfl) $$ [Hl Ho]
  · isplitl [Hl]; · iexact Hl
    iexact Ho
  iintro ⟨Hl, Ho⟩
  iapply (wp_left B K c (w := 0) (.r1 0) rfl rfl rfl) $$ HS
  iintro ⟨HS, Ha⟩
  iapply (wp_left B K c (w := 1) (.l1 0) rfl rfl rfl) $$ HS
  iintro ⟨HS, Hb⟩
  iapply (ret_intro c)
  iapply Hk
  isplitl [HS]; · iexact HS
  isplitl [Hl]; · iexact Hl
  isplitl [Ho]; · iexact Ho
  isplitl [Ha]; · iexact Ha
  iexact Hb

theorem part23 (c : Dev nD) (Q : PUnit → sProp 𝕄) :
    iprop(St B K 18 18 2 c)
      ⊢ iprop(((St B K 18 18 6 c ∗ sendPay B (.r1 1) c ∗ sendPay B (.l1 1) c ∗ sendPay B (.r1 2) c ∗ sendPay B (.l1 2) c) -∗ Q ⟨⟩) -∗ WP c (onBufs (k0_part23 (F := F))) Q) := by
  unfold onBufs
  rw [k0_part23_eq_skeleton]
  unfold k0_part23_skel
  simp only [Prog.lift, Prog.bind_op, Prog.bind_ret, Prog.pure_eq_ret]
  iintro HS Hk
  iapply (wp_left B K c (w := 2) (.r1 1) rfl rfl rfl) $$ HS
  iintro ⟨HS, Ha⟩
  iapply (wp_left B K c (w := 3) (.l1 1) rfl rfl rfl) $$ HS
  iintro ⟨HS, Hb⟩
  iapply (wp_left B K c (w := 4) (.r1 2) rfl rfl rfl) $$ HS
  iintro ⟨HS, Hc⟩
  iapply (wp_left B K c (w := 5) (.l1 2) rfl rfl rfl) $$ HS
  iintro ⟨HS, Hd⟩
  iapply (ret_intro c)
  iapply Hk
  isplitl [HS]; · iexact HS
  isplitl [Ha]; · iexact Ha
  isplitl [Hb]; · iexact Hb
  isplitl [Hc]; · iexact Hc
  iexact Hd

theorem part24 (c : Dev nD) (Q : PUnit → sProp 𝕄) :
    iprop(St B K 18 18 6 c)
      ⊢ iprop(((St B K 18 18 10 c ∗ sendPay B (.g2 0) c ∗ sendPay B (.g2 1) c ∗ sendPay B (.g2 2) c ∗ sendPay B (.g3 0) c) -∗ Q ⟨⟩) -∗ WP c (onBufs (k0_part24 (F := F)) c) Q) := by
  unfold onBufs
  rw [k0_part24_eq_skeleton]
  unfold k0_part24_skel
  simp only [Prog.lift, Prog.bind_op, Prog.bind_ret, Prog.pure_eq_ret]
  iintro HS Hk
  iapply (wp_left B K c (w := 6) (.g2 0) rfl rfl rfl) $$ HS
  iintro ⟨HS, Ha⟩
  iapply (wp_left B K c (w := 7) (.g2 1) rfl rfl rfl) $$ HS
  iintro ⟨HS, Hb⟩
  iapply (wp_left B K c (w := 8) (.g2 2) rfl rfl rfl) $$ HS
  iintro ⟨HS, Hc⟩
  iapply (wp_left B K c (w := 9) (.g3 0) rfl rfl rfl) $$ HS
  iintro ⟨HS, Hd⟩
  iapply (ret_intro c)
  iapply Hk
  isplitl [HS]; · iexact HS
  isplitl [Ha]; · iexact Ha
  isplitl [Hb]; · iexact Hb
  isplitl [Hc]; · iexact Hc
  iexact Hd

theorem part25 (c : Dev nD) (Q : PUnit → sProp 𝕄) :
    iprop(St B K 18 18 10 c)
      ⊢ iprop(((St B K 18 18 14 c ∗ sendPay B (.g3 1) c ∗ sendPay B (.g3 2) c ∗ sendPay B (.r4 0) c ∗ sendPay B (.l4 0) c) -∗ Q ⟨⟩) -∗ WP c (onBufs (k0_part25 (F := F)) c) Q) := by
  unfold onBufs
  rw [k0_part25_eq_skeleton]
  unfold k0_part25_skel
  simp only [Prog.lift, Prog.bind_op, Prog.bind_ret, Prog.pure_eq_ret]
  iintro HS Hk
  iapply (wp_left B K c (w := 10) (.g3 1) rfl rfl rfl) $$ HS
  iintro ⟨HS, Ha⟩
  iapply (wp_left B K c (w := 11) (.g3 2) rfl rfl rfl) $$ HS
  iintro ⟨HS, Hb⟩
  iapply (wp_left B K c (w := 12) (.r4 0) rfl rfl rfl) $$ HS
  iintro ⟨HS, Hc⟩
  iapply (wp_left B K c (w := 13) (.l4 0) rfl rfl rfl) $$ HS
  iintro ⟨HS, Hd⟩
  iapply (ret_intro c)
  iapply Hk
  isplitl [HS]; · iexact HS
  isplitl [Ha]; · iexact Ha
  isplitl [Hb]; · iexact Hb
  isplitl [Hc]; · iexact Hc
  iexact Hd

theorem part26 (c : Dev nD) (Q : PUnit → sProp 𝕄) :
    iprop(St B K 18 18 14 c)
      ⊢ iprop(((St B K 18 18 17 c ∗ sendPay B (.r4 1) c ∗ sendPay B (.l4 1) c ∗ sendPay B (.r4 2) c) -∗ Q ⟨⟩) -∗ WP c (onBufs (k0_part26 (F := F))) Q) := by
  unfold onBufs
  rw [k0_part26_eq_skeleton]
  unfold k0_part26_skel
  simp only [Prog.lift, Prog.bind_op, Prog.bind_ret, Prog.pure_eq_ret]
  iintro HS Hk
  iapply (wp_left B K c (w := 14) (.r4 1) rfl rfl rfl) $$ HS
  iintro ⟨HS, Ha⟩
  iapply (wp_left B K c (w := 15) (.l4 1) rfl rfl rfl) $$ HS
  iintro ⟨HS, Hb⟩
  iapply (wp_left B K c (w := 16) (.r4 2) rfl rfl rfl) $$ HS
  iintro ⟨HS, Hc⟩
  iapply (ret_intro c)
  iapply Hk
  isplitl [HS]; · iexact HS
  isplitl [Ha]; · iexact Ha
  isplitl [Hb]; · iexact Hb
  iexact Hc

end Cert.KernelIdeal.Run

end
-- ==== Proof.KernelIdeal.Start.lean ====
/-
# The start of the body

The buffers of the transfers, cut into the rows the transfers land in and put together again; the barrier, where
every device hands its neighbours the rows their transfers land in; and the parts of the body up to the first transfer.
-/
module

public import proofs.«01_k».proof.Proof.KernelIdeal.BodyParts

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

/-! ## Buffers in parts -/

/-- Some contents, at a part of a buffer. -/
def some4 (c : Dev nD) (S : Finset S4x256x1024.Idx) : sProp 𝕄 := iprop(∃ f, own4 (F := F) c S fullShare f)
def some1 (c : Dev nD) (S : Finset S4x256x1024.Idx) : sProp 𝕄 := iprop(∃ f, own1 (F := F) c S fullShare f)
def some2 (c : Dev nD) (S : Finset S4x64x1024.Idx) : sProp 𝕄 := iprop(∃ f, own2 (F := F) c S fullShare f)

/-- A part of a buffer that is two parts without a common entry. -/
theorem some4_union (c : Dev nD) {I J U : Finset S4x256x1024.Idx} (hU : U = I ∪ J) (hd : Disjoint I J) :
    some4 (F := F) c U ⊣⊢ iprop(some4 (F := F) c I ∗ some4 (F := F) c J) := by
  subst hU
  unfold some4
  constructor
  · iintro ⟨%f, H⟩
    ihave H := (own4_union c rfl hd).1 $$ H
    icases H with ⟨H1, H2⟩
    isplitl [H1]
    · iexists f; iexact H1
    · iexists f; iexact H2
  · iintro ⟨⟨%f, H1⟩, ⟨%g, H2⟩⟩
    iexists _
    iapply (show iprop(own4 c I fullShare f ∗ own4 c J fullShare g) ⊢ own4 c (I ∪ J) fullShare (J.piecewise g f) from pointsTo_join hd)
    isplitl [H1] <;> iassumption
theorem some1_union (c : Dev nD) {I J U : Finset S4x256x1024.Idx} (hU : U = I ∪ J) (hd : Disjoint I J) :
    some1 (F := F) c U ⊣⊢ iprop(some1 (F := F) c I ∗ some1 (F := F) c J) := by
  subst hU
  unfold some1
  constructor
  · iintro ⟨%f, H⟩
    ihave H := (own1_union c rfl hd).1 $$ H
    icases H with ⟨H1, H2⟩
    isplitl [H1]
    · iexists f; iexact H1
    · iexists f; iexact H2
  · iintro ⟨⟨%f, H1⟩, ⟨%g, H2⟩⟩
    iexists _
    iapply (show iprop(own1 c I fullShare f ∗ own1 c J fullShare g) ⊢ own1 c (I ∪ J) fullShare (J.piecewise g f) from pointsTo_join hd)
    isplitl [H1] <;> iassumption
theorem some2_union (c : Dev nD) {I J U : Finset S4x64x1024.Idx} (hU : U = I ∪ J) (hd : Disjoint I J) :
    some2 (F := F) c U ⊣⊢ iprop(some2 (F := F) c I ∗ some2 (F := F) c J) := by
  subst hU
  unfold some2
  constructor
  · iintro ⟨%f, H⟩
    ihave H := (show own2 c (I ∪ J) fullShare f ⊢ iprop(own2 c I fullShare f ∗ own2 c J fullShare f) from (pointsTo_union hd).1) $$ H
    icases H with ⟨H1, H2⟩
    isplitl [H1]
    · iexists f; iexact H1
    · iexists f; iexact H2
  · iintro ⟨⟨%f, H1⟩, ⟨%g, H2⟩⟩
    iexists _
    iapply (show iprop(own2 c I fullShare f ∗ own2 c J fullShare g) ⊢ own2 c (I ∪ J) fullShare (J.piecewise g f) from pointsTo_join hd)
    isplitl [H1] <;> iassumption

/-- The buffers of four slots of 256 rows: the first slot, and the others' upper and lower halves. -/
theorem slots_eq : (Finset.univ : Finset S4x256x1024.Idx)
    = sl 0 0 256 ∪ (sl 1 0 128 ∪ (sl 2 0 128 ∪ (sl 3 0 128 ∪ (sl 1 128 128 ∪ (sl 2 128 128 ∪ sl 3 128 128))))) := by
  ext i
  have h0 : (i (0 : Fin 3)).val < 4 := (i (0 : Fin 3)).isLt
  have h1 : (i (1 : Fin 3)).val < 256 := (i (1 : Fin 3)).isLt
  simp only [Finset.mem_univ, Finset.mem_union, mem_sl, true_iff]
  omega
theorem slots_disj : Disjoint (sl 0 0 256) (sl 1 0 128 ∪ (sl 2 0 128 ∪ (sl 3 0 128 ∪ (sl 1 128 128 ∪ (sl 2 128 128 ∪ sl 3 128 128)))))
    ∧ Disjoint (sl 1 0 128) (sl 2 0 128 ∪ (sl 3 0 128 ∪ (sl 1 128 128 ∪ (sl 2 128 128 ∪ sl 3 128 128))))
    ∧ Disjoint (sl 2 0 128) (sl 3 0 128 ∪ (sl 1 128 128 ∪ (sl 2 128 128 ∪ sl 3 128 128)))
    ∧ Disjoint (sl 3 0 128) (sl 1 128 128 ∪ (sl 2 128 128 ∪ sl 3 128 128))
    ∧ Disjoint (sl 1 128 128) (sl 2 128 128 ∪ sl 3 128 128) ∧ Disjoint (sl 2 128 128) (sl 3 128 128) := by
  refine ⟨?_, ?_, ?_, ?_, ?_, ?_⟩ <;>
    (refine Finset.disjoint_left.mpr fun i h h' => ?_; simp only [Finset.mem_union, mem_sl] at h h'; omega)

theorem some4_slots (c : Dev nD) : some4 (F := F) c Finset.univ ⊣⊢ iprop(some4 (F := F) c (sl 0 0 256) ∗ some4 (F := F) c (sl 1 0 128)
    ∗ some4 (F := F) c (sl 2 0 128) ∗ some4 (F := F) c (sl 3 0 128) ∗ some4 (F := F) c (sl 1 128 128) ∗ some4 (F := F) c (sl 2 128 128) ∗ some4 (F := F) c (sl 3 128 128)) := by
  obtain ⟨d1, d2, d3, d4, d5, d6⟩ := slots_disj
  exact (some4_union c slots_eq d1).trans (sep_congr .rfl ((some4_union c rfl d2).trans (sep_congr .rfl ((some4_union c rfl d3).trans
    (sep_congr .rfl ((some4_union c rfl d4).trans (sep_congr .rfl ((some4_union c rfl d5).trans (sep_congr .rfl (some4_union c rfl d6))))))))))
theorem some1_slots (c : Dev nD) : some1 (F := F) c Finset.univ ⊣⊢ iprop(some1 (F := F) c (sl 0 0 256) ∗ some1 (F := F) c (sl 1 0 128)
    ∗ some1 (F := F) c (sl 2 0 128) ∗ some1 (F := F) c (sl 3 0 128) ∗ some1 (F := F) c (sl 1 128 128) ∗ some1 (F := F) c (sl 2 128 128) ∗ some1 (F := F) c (sl 3 128 128)) := by
  obtain ⟨d1, d2, d3, d4, d5, d6⟩ := slots_disj
  exact (some1_union c slots_eq d1).trans (sep_congr .rfl ((some1_union c rfl d2).trans (sep_congr .rfl ((some1_union c rfl d3).trans
    (sep_congr .rfl ((some1_union c rfl d4).trans (sep_congr .rfl ((some1_union c rfl d5).trans (sep_congr .rfl (some1_union c rfl d6))))))))))

/-- The buffer of four slots of 64 rows: its slots. -/
theorem some2_slots (c : Dev nD) : some2 (F := F) c Finset.univ ⊣⊢ iprop(some2 (F := F) c (sl' 0) ∗ some2 (F := F) c (sl' 1)
    ∗ some2 (F := F) c (sl' 2) ∗ some2 (F := F) c (sl' 3)) := by
  refine (some2_union c (I := sl' 0) (J := sl' 1 ∪ (sl' 2 ∪ sl' 3)) ?_ ?_).trans
    (sep_congr .rfl ((some2_union c rfl ?_).trans (sep_congr .rfl (some2_union c rfl ?_))))
  · ext i
    have h0 : (i (0 : Fin 3)).val < 4 := (i (0 : Fin 3)).isLt
    simp only [Finset.mem_univ, Finset.mem_union, mem_sl', true_iff]
    omega
  all_goals
    refine Finset.disjoint_left.mpr fun i h h' => ?_
    simp only [Finset.mem_union, mem_sl'] at h h'
    omega

/-- The gather buffer's first slot: the device's own rows and the other planes'. -/
theorem some4_pieces (c : Dev nD) {z : ℕ} (hz : z < 4) :
    some4 (F := F) c (sl 0 0 256) ⊣⊢ iprop(some4 (F := F) c (sl 0 (64 * ((z + 1) % 4)) 64) ∗ some4 (F := F) c (sl 0 (64 * ((z + 4 - 0) % 4)) 64)
      ∗ some4 (F := F) c (sl 0 (64 * ((z + 4 - 1) % 4)) 64) ∗ some4 (F := F) c (sl 0 (64 * ((z + 4 - 2) % 4)) 64)) := by
  refine (some4_union c (I := sl 0 (64 * ((z + 1) % 4)) 64) (J := sl 0 (64 * ((z + 4 - 0) % 4)) 64 ∪ (sl 0 (64 * ((z + 4 - 1) % 4)) 64 ∪ sl 0 (64 * ((z + 4 - 2) % 4)) 64)) ?_ ?_).trans
    (sep_congr .rfl ((some4_union c rfl ?_).trans (sep_congr .rfl (some4_union c rfl ?_))))
  · ext i; simp only [Finset.mem_union, mem_sl]; omega
  all_goals
    refine Finset.disjoint_left.mpr fun i h h' => ?_
    simp only [Finset.mem_union, mem_sl] at h h'
    omega

/-- The channels, one by one. -/
theorem bigSep_ch (Φ : Ch → sProp 𝕄) : bigSep Finset.univ Φ = iprop(Φ (.r1 0) ∗ Φ (.r1 1) ∗ Φ (.r1 2) ∗ Φ (.l1 0) ∗ Φ (.l1 1) ∗ Φ (.l1 2)
    ∗ Φ (.g2 0) ∗ Φ (.g2 1) ∗ Φ (.g2 2) ∗ Φ (.g3 0) ∗ Φ (.g3 1) ∗ Φ (.g3 2) ∗ Φ (.r4 0) ∗ Φ (.r4 1) ∗ Φ (.r4 2) ∗ Φ (.l4 0) ∗ Φ (.l4 1) ∗ Φ (.l4 2)) :=
  bigSep_univ_eq_bigSepL ([.r1 0, .r1 1, .r1 2, .l1 0, .l1 1, .l1 2, .g2 0, .g2 1, .g2 2, .g3 0, .g3 1, .g3 2, .r4 0, .r4 1, .r4 2, .l4 0, .l4 1, .l4 2] : List Ch)
    (by decide) (by decide) Φ

/-- The transfers' buffers whole, at the start of the body, are the rows every transfer lands in and the three parts
    a device fills itself. -/
theorem buffers_cut (c : Dev nD) :
    iprop(some1 (F := F) c Finset.univ ∗ some2 (F := F) c Finset.univ ∗ some4 (F := F) c Finset.univ)
      ⊢ iprop(some1 (F := F) c (sl 0 0 256) ∗ some2 (F := F) c (sl' 0) ∗ some4 (F := F) c (sl 0 (64 * ((zc c + 1) % 4)) 64)
        ∗ bigSep Finset.univ fun j : Ch => land (F := F) j c) := by
  rw [bigSep_ch]
  iintro ⟨H1, H2, H4⟩
  ihave H1 := (some1_slots c).1 $$ H1
  icases H1 with ⟨A0, A1, A2, A3, A4, A5, A6⟩
  ihave H2 := (some2_slots c).1 $$ H2
  icases H2 with ⟨B0, B1, B2, B3⟩
  ihave H4 := (some4_slots c).1 $$ H4
  icases H4 with ⟨C0, C1, C2, C3, C4, C5, C6⟩
  ihave C0 := (some4_pieces c (zc_lt c)).1 $$ C0
  icases C0 with ⟨D0, D1, D2, D3⟩
  isplitl [A0]; · iexact A0
  isplitl [B0]; · iexact B0
  isplitl [D0]; · iexact D0
  unfold some1 some2 some4 land
  isplitl [A1]; · iexact A1
  isplitl [A2]; · iexact A2
  isplitl [A3]; · iexact A3
  isplitl [A4]; · iexact A4
  isplitl [A5]; · iexact A5
  isplitl [A6]; · iexact A6
  isplitl [B1]; · iexact B1
  isplitl [B2]; · iexact B2
  isplitl [B3]; · iexact B3
  isplitl [D1]; · iexact D1
  isplitl [D2]; · iexact D2
  isplitl [D3]; · iexact D3
  isplitl [C1]; · iexact C1
  isplitl [C2]; · iexact C2
  isplitl [C3]; · iexact C3
  isplitl [C4]; · iexact C4
  isplitl [C5]; · iexact C5
  iexact C6

/-! ## The barrier -/

/-- The rows the transfers to device `c` land in, by the neighbour they come from. -/
theorem lands_groups (c : Dev nD) : (bigSep Finset.univ fun j : Ch => land (F := F) j c)
    = bigSep Finset.univ fun d : Fin 4 => bigSep (Finset.univ.filter fun j : Ch => j.grp = d) fun j => land (F := F) j c := by
  rw [← BI.bigSep_biUnion_eq Finset.univ (fun d : Fin 4 => Finset.univ.filter fun j : Ch => j.grp = d)
    (fun j : Ch => land (F := F) j c) fun j _ j' _ hne => Finset.disjoint_filter.mpr fun i _ hi hi' => hne (hi.symm.trans hi')]
  congr 1
  ext j; simp

theorem barPay_dst (n c : Dev nD) (d : Fin 4) (h : ∀ j : Ch, j.grp = d → j.dst n = c) :
    barPay (F := F) n d = bigSep (Finset.univ.filter fun j : Ch => j.grp = d) fun j => land (F := F) j c := by
  unfold barPay
  exact bigSep_congr fun j hj => by rw [h j (Finset.mem_filter.mp hj).2]

/-- The rows device `c` hands out are what its four signals hand over. -/
theorem lands_signals (c : Dev nD) : (bigSep Finset.univ fun j : Ch => land (F := F) j c)
    = iprop(barPay (F := F) (lf c) 0 ∗ barPay (F := F) (rt c) 1 ∗ barPay (F := F) (zp c) 2 ∗ barPay (F := F) (zn c) 3) := by
  rw [lands_groups, bigSep_univ_eq_bigSepL [0, 1, 2, 3] (by decide) (by decide),
    barPay_dst (lf c) c 0 (fun j hj => by cases j <;> first | exact rt_lf c | exact absurd hj (by simp [Ch.grp])),
    barPay_dst (rt c) c 1 (fun j hj => by cases j <;> first | exact lf_rt c | exact absurd hj (by simp [Ch.grp])),
    barPay_dst (zp c) c 2 (fun j hj => by cases j <;> first | exact zn_zp c | exact absurd hj (by simp [Ch.grp])),
    barPay_dst (zn c) c 3 (fun j hj => by cases j <;> exact absurd hj (by simp [Ch.grp]))]
  rfl

variable (B : Blocks F) (K : Dev nD × Option (Ch × Bool) → ℕ)

/-- The tokens of device `c`'s four signals; -/
def barToks (c : Dev nD) : sProp 𝕄 :=
  iprop(dutyTok ER (barCell (lf c)) 0 0 ∗ dutyTok ER (barCell (rt c)) 0 1 ∗ dutyTok ER (barCell (zp c)) 0 2 ∗ dutyTok ER (barCell (zn c)) 0 3)
/-- a channel's tokens, positions and receive credit; -/
def idle (c : Dev nD) (j : Ch) : sProp 𝕄 :=
  iprop((dutyTok ER (recvCell j (j.dst c)) 0 0 ∗ dutyTok ER (sendCell j c) 0 0) ∗ atPos ER (sendCell j c) 0 ∅ 0
    ∗ atPos ER (recvCell j c) 0 ∅ 0 ∗ cred (tallyAt (recvCell j c) () (amt j)))
/-- and all the protocol's state device `c` starts with. -/
def St₀ (c : Dev nD) : sProp 𝕄 :=
  iprop(records B K ∗ levAts L lv ∗ (∃ W, owes (c : Thread nD τ) (O₀ c) W) ∗ (atPos ER (barCell c) 0 ∅ 0 ∗ cred (tallyAt (barCell c) () 4)) ∗ barToks (F := F) c
    ∗ bigSep Finset.univ (idle (F := F) c))

/-- Two ways of grouping six things. -/
theorem regrouped (P₁ P₂ P₃ P₄ P₅ P₆ : sProp 𝕄) :
    iprop((P₁ ∗ P₂ ∗ P₃) ∗ emp ∗ P₄ ∗ P₅ ∗ P₆) ⊣⊢ iprop(P₁ ∗ (P₂ ∗ P₃) ∗ P₄ ∗ P₅ ∗ P₆) := by
  constructor
  · iintro ⟨⟨H1, H2, H3⟩, -, H4, H5, H6⟩
    isplitl [H1]; · iexact H1
    isplitl [H2 H3]
    · isplitl [H2] <;> iassumption
    isplitl [H4]; · iexact H4
    isplitl [H5] <;> iassumption
  · iintro ⟨H1, ⟨H2, H3⟩, H4, H5, H6⟩
    isplitl [H1 H2 H3]
    · isplitl [H1]; · iexact H1
      isplitl [H2] <;> iassumption
    isplitr; · iempintro
    isplitl [H4]; · iexact H4
    isplitl [H5] <;> iassumption

theorem chSt_start (c : Dev nD) : (bigSep Finset.univ (chSt (F := F) 0 0 0 c))
    = iprop((bigSep Finset.univ fun j : Ch => land (F := F) j (j.dst c)) ∗ bigSep Finset.univ (idle (F := F) c)) := by
  rw [← bigSep_sep']
  refine bigSep_congr fun j _ => ?_
  unfold chSt idle
  rw [if_pos (Nat.zero_le _), if_neg (by omega), if_pos (Nat.zero_le _), if_pos (Nat.zero_le _)]
  exact BI.Entails.antisymm (regrouped _ _ _ _ _ _).1 (regrouped _ _ _ _ _ _).2

/-- One signal of the barrier. -/
theorem bar_signal (c n : Dev nD) (d : Fin 4) (O O' : CellTallies nD τ sig Unit) (hO : O = O' + tallyAt (barCell n) () 1) (m : Dev nD) (hm : m = n)
    {α : Type} {Q : α → sProp 𝕄} {k : PUnit → Prog (TpuEff nD τ sig (Elt F) Λ₀ .tc) α}  :
    iprop(records B K ∗ (∃ W, owes (c : Thread nD τ) O W) ∗ dutyTok ER (barCell n) 0 d ∗ barPay (F := F) n d)
      ⊢ iprop(((∃ W, owes (c : Thread nD τ) O' W) -∗ WP c (k ⟨⟩) Q) -∗ WP c (.op (.semSignal (m : Thread nD τ) barS (1#32).toInt) k) Q) := by
  subst hm
  iintro ⟨#HR, ⟨%W, HO⟩, Ht, Hp⟩ Hk
  ihave Hr := (records_at B K (m, none)) $$ HR
  icases Hr with ⟨#HI, #Hre⟩
  iapply (Rounds.wp_signal 𝒱₀ ER (sched B) (c : Thread nD τ) none (dst := (m : Thread nD τ)) (κ := K (m, none))
      (d := d) (by rw [duties_bar]; exact Finset.mem_univ _) ((amount_bar B m d).trans (by decide)) () O' hO) $$ [HO Ht Hp]
  · isplitr; · iexact HI
    isplitl [HO]; · iexact HO
    isplitl [Ht]; · iexact Ht
    isplitl [Hp]; · rw [payload_bar]; iexact Hp
    iexact Hre
  iintro HO
  iapply Hk
  iexists W; iexact HO

/-- The barrier: four signals, then all four of the device's own awaited. -/
theorem barrier (c : Dev nD) {d1 d2 d3 d4 : Dev nD} (h1 : d1 = lf c) (h2 : d2 = rt c) (h3 : d3 = zp c) (h4 : d4 = zn c)
    {α : Type} {Q : α → sProp 𝕄} {k : PUnit → Prog (TpuEff nD τ sig (Elt F) Λ₀ .tc) α} :
    iprop(St₀ B K c ∗ bigSep Finset.univ fun j : Ch => land (F := F) j c)
      ⊢ iprop(((St B K 0 0 0 c ∗ semVal (barCell c) 0) -∗ WP c (k ⟨⟩) Q)
        -∗ WP c (.op (.semSignal (d1 : Thread nD τ) barS (1#32).toInt) fun _ => .op (.semSignal (d2 : Thread nD τ) barS (1#32).toInt) fun _ =>
          .op (.semSignal (d3 : Thread nD τ) barS (1#32).toInt) fun _ => .op (.semSignal (d4 : Thread nD τ) barS (1#32).toInt) fun _ =>
          .op (.semWait barS (4#32).toInt) k) Q) := by
  rw [lands_signals]
  unfold St₀ barToks
  iintro ⟨⟨#HR, #Hlev, HO, ⟨Hat, Hc⟩, ⟨Ht1, Ht2, Ht3, Ht4⟩, Hidle⟩, Hp1, Hp2, Hp3, Hp4⟩ Hk
  iapply (bar_signal B K c (lf c) 0 (O₀ c) (O₁ c) rfl d1 h1) $$ [HO Ht1 Hp1]
  · isplitr; · iexact HR
    isplitl [HO]; · iexact HO
    isplitl [Ht1] <;> iassumption
  iintro HO
  iapply (bar_signal B K c (rt c) 1 (O₁ c) (O₂ c) rfl d2 h2) $$ [HO Ht2 Hp2]
  · isplitr; · iexact HR
    isplitl [HO]; · iexact HO
    isplitl [Ht2] <;> iassumption
  iintro HO
  iapply (bar_signal B K c (zp c) 2 (O₂ c) (O₃ c) rfl d3 h3) $$ [HO Ht3 Hp3]
  · isplitr; · iexact HR
    isplitl [HO]; · iexact HO
    isplitl [Ht3] <;> iassumption
  iintro HO
  iapply (bar_signal B K c (zn c) 3 (O₃ c) (dues c 0) rfl d4 h4) $$ [HO Ht4 Hp4]
  · isplitr; · iexact HR
    isplitl [HO]; · iexact HO
    isplitl [Ht4] <;> iassumption
  iintro ⟨%W, HO⟩
  ihave Hr := (records_at B K (c, none)) $$ HR
  icases Hr with ⟨#HI, -⟩
  iapply (Rounds.wp_wait_rest_token 𝒱₀ ER (sched B) (c : Thread nD τ) none (κ := K (c, none))
      (wpE_semWait_eq 𝒱₀ (c : Thread nD τ) none Set.univ) (Set.mem_univ _) () (O := dues c 0) (W := W) (R := 0) (m := 0) (T := ∅)
      (by rw [Nat.zero_add]; exact (expect_bar B c).symm)) $$ [Hc HO Hat]
  · isplitr; · iexact HI
    isplitl [Hc]; · iexact Hc
    isplitl [HO]; · iexact HO
    isplitr; · iapply (mayWait_dues c (.reg barS) 0 (by rw [lv_bar]; omega)); iexact Hlev
    iexact Hat
  iintro ⟨HO, Hat, -, Hpay⟩
  ihave Hp := (Entails.of_eq (rest_bar B c)) $$ Hpay
  imod (Rounds.cell_close ER (sched B) (Set.mem_univ (K (c, none))) (fun h => h) (R := 0 + 1) (duties_later B _)) $$ [Hat] with Hz
  · isplitr; · iexact HI
    iexact Hat
  iapply Hk
  isplitr [Hz]
  · unfold St
    rw [chSt_start]
    isplitr; · iexact HR
    isplitr; · iexact Hlev
    isplitl [HO]; · iexists _; iexact HO
    isplitl [Hp] <;> iassumption
  iexact Hz

/-! ## The first parts -/

omit B K in
/-- The first part reads the device's number; all else in it is words of addresses. -/
theorem part1 (c : Dev nD) (Q : (Σ' (d0 : Dev nD) (v19 : BitVec 32) (v20 : BitVec 32) (v24 : BitVec 32) (v28 : BitVec 32) (v32 : BitVec 32), BitVec 32) → sProp 𝕄) :
    iprop(∀ v19 v20 v24 v28 v32 v36, Q ⟨c, v19, v20, v24, v28, v32, v36⟩) ⊢ WP c (onBufs (k0_part1 (F := F))) Q := by
  unfold onBufs
  rw [k0_part1_eq_skeleton]
  unfold k0_part1_skel
  simp only [Prog.lift, Prog.bind_op, Prog.bind_ret, Prog.pure_eq_ret, WP, wp_deviceId]
  iintro H
  iapply (ret_intro c)
  iapply H

/-- The second: the barrier, the device's product, and its own quarter of it narrowed into the ring's first slot. -/
theorem part2 (c : Dev nD) (v20 v24 v28 v32 v36 : BitVec 32) (Q : PUnit → sProp 𝕄) :
    iprop(St₀ B K c ∗ (bigSep Finset.univ fun j : Ch => land (F := F) j c) ∗ (((c : Thread nD τ).loc cc0_stg0_0) ↦{fullShare} B.x c)
        ∗ (((c : Thread nD τ).loc cc0_stg1_0) ↦{fullShare} B.w c) ∗ (∃ f, own0 (F := F) c f) ∗ some1 (F := F) c (sl 0 0 256))
      ⊢ iprop(((St B K 0 0 0 c ∗ semVal (barCell c) 0 ∗ (((c : Thread nD τ).loc cc0_stg0_0) ↦{fullShare} B.x c)
          ∗ (((c : Thread nD τ).loc cc0_stg1_0) ↦{fullShare} B.w c) ∗ own0 c (accV B c) ∗ sendPay B (.r1 0) c ∗ sendPay B (.l1 0) c) -∗ Q ⟨⟩)
        -∗ WP c (onBufs (k0_part2 (F := F)) c v20 v24 v28 v32 v36) Q) := by
  unfold onBufs
  rw [k0_part2_eq_skeleton]
  unfold k0_part2_skel
  simp only [semSignalWord, semWaitWord, Prog.lift, Prog.bind_op, Prog.bind_ret, Prog.pure_eq_ret]
  unfold some1
  iintro ⟨HS, Hl, Hx, Hw, ⟨%f0, Ha⟩, ⟨%f1, Hs⟩⟩ Hk
  iapply (barrier B K c (dev1_eq c) (dev2_eq c) (dev3_eq c) (dev4_eq c)) $$ [HS Hl]
  · isplitl [HS] <;> iassumption
  iintro ⟨HS, Hz⟩
  have h0 : (![0, 0] : Fin 2 → ℕ) = fun _ => 0 := funext fun a => by fin_cases a <;> rfl
  iapply (ldX c h0) $$ Hx; iintro Hx
  iapply (ldW c h0) $$ Hw; iintro Hw
  iapply (ld0 c (n := 1024) rfl) $$ Ha; iintro Ha
  iapply (st0 c h0) $$ Ha; iintro Ha
  iapply (ld0 c (n := 256) (off1_eq c)) $$ Ha; iintro Ha
  iapply (ld1 c (n := 256) rfl subset_rfl) $$ Hs; iintro Hs
  iapply (st1 c (n := 256) rfl (A1 B c) (val_s1_0 B c)) $$ Hs; iintro Hs
  iapply (ret_intro c)
  ihave Hs := (show own1 c (sl 0 0 256) fullShare (A1 B c) ⊢ iprop(sendPay B (.r1 0) c ∗ sendPay B (.l1 0) c) from (own1_halves c 0).1) $$ Hs
  icases Hs with ⟨Ht, Hb⟩
  iapply Hk
  isplitl [HS]; · iexact HS
  isplitl [Hz]; · iexact Hz
  isplitl [Hx]; · iexact Hx
  isplitl [Hw]; · iexact Hw
  isplitl [Ha]; · iexact Ha
  isplitl [Ht]; · iexact Ht
  iexact Hb

end Cert.KernelIdeal.Run

end
-- ==== Proof.KernelIdeal.Body.lean ====
/-
# The body

The parts chained: from the barrier to the last departure seen, a device's output comes to hold `outV`, and its
buffers and cells come back.
-/
module

public import proofs.«01_k».proof.Proof.KernelIdeal.Start

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (B : Blocks F) (K : Dev nD × Option (Ch × Bool) → ℕ)

/-! ## The buffers put together again -/

theorem some4_intro (c : Dev nD) {S : Finset S4x256x1024.Idx} {f : Vec F S4x256x1024 .bf16} : own4 c S fullShare f ⊢ some4 (F := F) c S := by
  unfold some4
  iintro H
  iexists f
  iexact H

/-- The ring's buffer: the half slots its transfers read, and the last slot. -/
theorem ring_joined (c : Dev nD) :
    iprop(sendPay B (.r1 0) c ∗ sendPay B (.r1 1) c ∗ sendPay B (.r1 2) c ∗ sendPay B (.l1 0) c ∗ sendPay B (.l1 1) c ∗ sendPay B (.l1 2) c ∗ own1 c (sl 3 0 256) fullShare (A1 B c)) ⊢ some1 (F := F) c Finset.univ := by
  iintro ⟨H1, H2, H3, H4, H5, H6, H7⟩
  iapply (some1_slots c).2
  ihave H0 := (show iprop(sendPay B (.r1 0) c ∗ sendPay B (.l1 0) c) ⊢ own1 c (sl 0 0 256) fullShare (A1 B c) from (own1_halves c 0).2) $$ [H1 H4]
  · isplitl [H1] <;> iassumption
  ihave H7 := (own1_halves c 3).1 $$ H7
  icases H7 with ⟨H7, H8⟩
  unfold some1
  isplitl [H0]; · iexists _; iexact H0
  isplitl [H2]; · iexists (A1 B c); iapply (show sendPay B (.r1 1) c ⊢ own1 c (sl 1 0 128) fullShare (A1 B c) from .rfl); iexact H2
  isplitl [H3]; · iexists (A1 B c); iapply (show sendPay B (.r1 2) c ⊢ own1 c (sl 2 0 128) fullShare (A1 B c) from .rfl); iexact H3
  isplitl [H7]; · iexists _; iexact H7
  isplitl [H5]; · iexists (A1 B c); iapply (show sendPay B (.l1 1) c ⊢ own1 c (sl 1 128 128) fullShare (A1 B c) from .rfl); iexact H5
  isplitl [H6]; · iexists (A1 B c); iapply (show sendPay B (.l1 2) c ⊢ own1 c (sl 2 128 128) fullShare (A1 B c) from .rfl); iexact H6
  iexists _; iexact H8

/-- The planes' buffer: the slots its transfers read, and the last. -/
theorem planes_joined (c : Dev nD) :
    iprop(sendPay B (.g2 0) c ∗ sendPay B (.g2 1) c ∗ sendPay B (.g2 2) c ∗ own2 c (sl' 3) fullShare (A2 B c)) ⊢ some2 (F := F) c Finset.univ := by
  iintro ⟨H0, H1, H2, H3⟩
  iapply (some2_slots c).2
  unfold some2
  isplitl [H0]; · iexists (A2 B c); iapply (show sendPay B (.g2 0) c ⊢ own2 c (sl' 0) fullShare (A2 B c) from .rfl); iexact H0
  isplitl [H1]; · iexists (A2 B c); iapply (show sendPay B (.g2 1) c ⊢ own2 c (sl' 1) fullShare (A2 B c) from .rfl); iexact H1
  isplitl [H2]; · iexists (A2 B c); iapply (show sendPay B (.g2 2) c ⊢ own2 c (sl' 2) fullShare (A2 B c) from .rfl); iexact H2
  iexists _; iexact H3

/-- A device's own piece of the gather, lent to the next plane. -/
theorem g3_own (c : Dev nD) : sendPay B (.g3 0) c = own4 c (sl 0 (64 * ((zc c + 1) % 4)) 64) fullShare.right.left (A4 B c) := by
  have e : (zc c + 5 - (0 : Fin 3).val) % 4 = (zc c + 1) % 4 := by show (zc c + 5 - 0) % 4 = _; omega
  rw [← e]; rfl

/-- The first slot of the gather's buffer: the shares lent to the ring, to the next plane, and kept. -/
theorem slot0_joined (c : Dev nD) :
    iprop((sendPay B (.g3 0) c ∗ sendPay B (.g3 1) c ∗ sendPay B (.g3 2) c) ∗ (own4 c (sl 0 (64 * ((zc c + 1) % 4)) 64) fullShare.right.right (A4 B c) ∗ own4 c (sl 0 (64 * ((zc c + 4 - 0) % 4)) 64) fullShare.right.right (A4 B c) ∗ own4 c (sl 0 (64 * ((zc c + 4 - 1) % 4)) 64) fullShare.right.right (A4 B c)) ∗ (own4 c (sl 0 (64 * ((zc c + 4 - 2) % 4)) 64) fullShare.right (A4 B c)) ∗ sendPay B (.r4 0) c ∗ sendPay B (.l4 0) c) ⊢ some4 (F := F) c (sl 0 0 256) := by
  rw [g3_own]
  iintro ⟨⟨Ha, Hb, Hc⟩, ⟨Ra, Rb, Rc⟩, Hd, Ht, Hu⟩
  iapply (some4_intro c (f := A4 B c))
  iapply (own4_share c).2
  isplitl [Ht Hu]
  · iapply (show iprop(sendPay B (.r4 0) c ∗ sendPay B (.l4 0) c) ⊢ own4 c (sl 0 0 256) fullShare.left (A4 B c) from (own4_halves c 0).2)
    isplitl [Ht] <;> iassumption
  iapply (own4_pieces c (zc_lt c)).2
  isplitl [Ha Ra]
  · iapply (own4_share c).2
    isplitl [Ha] <;> iassumption
  isplitl [Hb Rb]
  · iapply (show iprop(sendPay B (.g3 1) c ∗ own4 c (sl 0 (64 * ((zc c + 4 - 0) % 4)) 64) fullShare.right.right (A4 B c)) ⊢ own4 c (sl 0 (64 * ((zc c + 4 - 0) % 4)) 64) fullShare.right (A4 B c) from (own4_share c).2)
    isplitl [Hb] <;> iassumption
  isplitl [Hc Rc]
  · iapply (show iprop(sendPay B (.g3 2) c ∗ own4 c (sl 0 (64 * ((zc c + 4 - 1) % 4)) 64) fullShare.right.right (A4 B c)) ⊢ own4 c (sl 0 (64 * ((zc c + 4 - 1) % 4)) 64) fullShare.right (A4 B c) from (own4_share c).2)
    isplitl [Hc] <;> iassumption
  iexact Hd

/-- A later slot of the gather's buffer: half of it lent, half kept. -/
theorem slot_joined (c : Dev nD) {S : Finset S4x256x1024.Idx} {P : sProp 𝕄} (h : P = own4 c S fullShare.left (A4 B c)) :
    iprop(P ∗ own4 c S fullShare.right (A4 B c)) ⊢ some4 (F := F) c S := by
  rw [h]
  exact (own4_share c).2.trans (some4_intro c)

theorem gather_joined (c : Dev nD) :
    iprop(some4 (F := F) c (sl 0 0 256) ∗ (sendPay B (.r4 1) c ∗ own4 c (sl 1 0 128) fullShare.right (A4 B c)) ∗ (sendPay B (.r4 2) c ∗ own4 c (sl 2 0 128) fullShare.right (A4 B c)) ∗ own4 c (sl 3 0 128) fullShare (A4 B c)
      ∗ (sendPay B (.l4 1) c ∗ own4 c (sl 1 128 128) fullShare.right (A4 B c)) ∗ (sendPay B (.l4 2) c ∗ own4 c (sl 2 128 128) fullShare.right (A4 B c)) ∗ own4 c (sl 3 128 128) fullShare (A4 B c)) ⊢ some4 (F := F) c Finset.univ := by
  iintro ⟨H0, H1, H2, H3, H4, H5, H6⟩
  iapply (some4_slots c).2
  isplitl [H0]; · iexact H0
  isplitl [H1]; · iapply (slot_joined B c rfl); iexact H1
  isplitl [H2]; · iapply (slot_joined B c rfl); iexact H2
  isplitl [H3]; · iapply (some4_intro c (f := A4 B c)); iexact H3
  isplitl [H4]; · iapply (slot_joined B c rfl); iexact H4
  isplitl [H5]; · iapply (slot_joined B c rfl); iexact H5
  iapply (some4_intro c (f := A4 B c)); iexact H6

/-! ## The whole body -/

omit B K in
/-- One part after another. -/
theorem seq (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show _ ⊢ wp frame (wpE defs₀ 𝒱₀ c.tc none) Set.univ (p >>= k) Q
  rw [wp_bind]
/-- **The body.** From the protocol's state at its start, the operands' blocks, and the other buffers with anything in
    them, device `c` leaves the protocol's state at its end, the operands' blocks as they were, and `outV` in its output. -/
theorem body (c : Dev nD) (Q : PUnit → sProp 𝕄) :
    iprop((St₀ B K c ∗ (((c : Thread nD τ).loc cc0_stg0_0) ↦{fullShare} B.x c) ∗ (((c : Thread nD τ).loc cc0_stg1_0) ↦{fullShare} B.w c) ∗ (∃ f, ownO (F := F) c f))
        ∗ ((∃ f, own0 (F := F) c f) ∗ some1 (F := F) c Finset.univ ∗ some2 (F := F) c Finset.univ ∗ some4 (F := F) c Finset.univ))
      ⊢ iprop((((St B K 18 18 18 c ∗ semVal (barCell c) 0 ∗ (((c : Thread nD τ).loc cc0_stg0_0) ↦{fullShare} B.x c) ∗ (((c : Thread nD τ).loc cc0_stg1_0) ↦{fullShare} B.w c) ∗ ownO c (outV B c))
          ∗ ((∃ f, own0 (F := F) c f) ∗ some1 (F := F) c Finset.univ ∗ some2 (F := F) c Finset.univ ∗ some4 (F := F) c Finset.univ)) -∗ Q ⟨⟩)
        -∗ WP c (onBufs (cc0_body (F := F))) Q) := by
  unfold onBufs
  rw [cc0_body_eq_skeleton]
  unfold cc0_body_skel
  iintro ⟨⟨HS, Hx, Hw, ⟨%f, Ho⟩⟩, Ha, H1, H2, H4⟩ Hk
  ihave Hb := (buffers_cut c) $$ [H1 H2 H4]
  · isplitl [H1]; · iexact H1
    isplitl [H2] <;> iassumption
  icases Hb with ⟨H1, H2, H4, Hl⟩
  ihave H2 := (show some2 (F := F) c (sl' 0) ⊢ iprop(∃ f, own2 c (sl' 0) fullShare f) from .rfl) $$ H2
  ihave H4 := (show some4 (F := F) c (sl 0 (64 * ((zc c + 1) % 4)) 64) ⊢ iprop(∃ g, own4 c (sl 0 (64 * ((zc c + 1) % 4)) 64) fullShare g) from .rfl) $$ H4
  ihave Ho := (Entails.of_eq (congrArg (ownO c) (outT_none B c f).symm)) $$ Ho
  iapply (seq c)
  iapply (part1 c)
  iintro %v19 %v20 %v24 %v28 %v32 %v36
  iapply (seq c)
  iapply (part2 B K c _ _ _ _ _ _) $$ [HS Hl Hx Hw Ha H1]
  · isplitl [HS]; · iexact HS
    isplitl [Hl]; · iexact Hl
    isplitl [Hx]; · iexact Hx
    isplitl [Hw]; · iexact Hw
    isplitl [Ha]; · iexact Ha
    iexact H1
  iintro ⟨HS, Hz, Hx, Hw, Ha, Hr, Hs⟩
  iapply (seq c)
  iapply (part3 B K c _ _ _) $$ [HS Hr Hs]
  · isplitl [HS]; · iexact HS
    isplitl [Hr]; · iexact Hr
    iexact Hs
  iintro ⟨HS, Hr⟩
  iapply (seq c)
  iapply (part4 B K c _ _ _) $$ [HS Hr Ha]
  · isplitl [HS]; · iexact HS
    isplitl [Hr]; · iexact Hr
    iexact Ha
  iintro ⟨HS, Ha, H1⟩
  ihave H1 := (show own1 c (sl 1 0 256) fullShare (A1 B c) ⊢ iprop(sendPay B (.r1 1) c ∗ sendPay B (.l1 1) c) from (own1_halves c 1).1) $$ H1
  icases H1 with ⟨Hr, Hs⟩
  iapply (seq c)
  iapply (part5 B K c _ _ _) $$ [HS Hr Hs]
  · isplitl [HS]; · iexact HS
    isplitl [Hr]; · iexact Hr
    iexact Hs
  iintro ⟨HS, Hr⟩
  iapply (seq c)
  iapply (part6 B K c _ _ _) $$ [HS Hr Ha]
  · isplitl [HS]; · iexact HS
    isplitl [Hr]; · iexact Hr
    iexact Ha
  iintro ⟨HS, Ha, H1⟩
  ihave H1 := (show own1 c (sl 2 0 256) fullShare (A1 B c) ⊢ iprop(sendPay B (.r1 2) c ∗ sendPay B (.l1 2) c) from (own1_halves c 2).1) $$ H1
  icases H1 with ⟨Hr, Hs⟩
  iapply (seq c)
  iapply (part7 B K c _ _ _) $$ [HS Hr Hs]
  · isplitl [HS]; · iexact HS
    isplitl [Hr]; · iexact Hr
    iexact Hs
  iintro ⟨HS, Hr⟩
  iapply (seq c)
  iapply (part8 B K c _ _ _) $$ [HS Hr Ha]
  · isplitl [HS]; · iexact HS
    isplitl [Hr]; · iexact Hr
    iexact Ha
  iintro %v
  iintro ⟨HS, Ha, H1⟩
  iapply (seq c)
  iapply (part9 B K c _ _ _ _ _ _) $$ [HS H1 H2]
  · isplitl [HS]; · iexact HS
    isplitl [H1]; · iexact H1
    iexact H2
  iintro %v
  iintro ⟨HS, H1, Hr⟩
  iapply (seq c)
  iapply (part10 B K c _ _ _ _) $$ [HS H1 Hr]
  · isplitl [HS]; · iexact HS
    isplitl [H1]; · iexact H1
    iexact Hr
  iintro ⟨HS, H1⟩
  iapply (seq c)
  iapply (part11 B K c _ _ _) $$ [HS H1]
  · isplitl [HS]; · iexact HS
    iexact H1
  iintro ⟨HS, H1⟩
  iapply (seq c)
  iapply (part12 B K c _ _ _) $$ [HS H1]
  · isplitl [HS]; · iexact HS
    iexact H1
  iintro %v349 %c64
  iintro ⟨HS, H1, H2⟩
  iapply (seq c)
  iapply (part13 B K c _ _ _ _ _ f _) $$ [HS H4 Ho]
  · isplitl [HS]; · iexact HS
    isplitl [H4]; · iexact H4
    iexact Ho
  iintro ⟨HS, La, Ra, Hr, Ho⟩
  iapply (seq c)
  iapply (part14 B K c _ _ _ _ f _ _) $$ [HS Hr Ho]
  · isplitl [HS]; · iexact HS
    isplitl [Hr]; · iexact Hr
    iexact Ho
  iintro ⟨HS, Lb, Rb, Ho⟩
  iapply (seq c)
  iapply (part15 B K c _ _ _ _ f _ _) $$ [HS Ho]
  · isplitl [HS]; · iexact HS
    iexact Ho
  iintro ⟨HS, Lc, Rc, Ho⟩
  iapply (seq c)
  iapply (part16 B K c _ _ _ _) $$ [HS La Lb Lc]
  · isplitl [HS]; · iexact HS
    isplitl [La]; · iexact La
    isplitl [Lb]; · iexact Lb
    iexact Lc
  iintro %v458
  iintro ⟨HS, Rd⟩
  iapply (seq c)
  iapply (part17 B K c _ _ _ _ _ f _ _) $$ [HS Rd Ho]
  · isplitl [HS]; · iexact HS
    isplitl [Rd]; · iexact Rd
    iexact Ho
  iintro %v507
  iintro ⟨HS, Rd, Hr, Hs, Ho⟩
  iapply (seq c)
  iapply (part18 B K c _ _ _ f _ _) $$ [HS Hr Hs Ho]
  · isplitl [HS]; · iexact HS
    isplitl [Hr]; · iexact Hr
    isplitl [Hs]; · iexact Hs
    iexact Ho
  iintro %v531
  iintro ⟨HS, T1, B1, Ho⟩
  iapply (seq c)
  iapply (part19 B K c _ _ _ f _ _) $$ [HS B1 Ho]
  · isplitl [HS]; · iexact HS
    isplitl [B1]; · iexact B1
    iexact Ho
  iintro ⟨HS, B1, Hr, Hs, Ho⟩
  iapply (seq c)
  iapply (part20 B K c _ _ f _ _) $$ [HS Hr Hs Ho]
  · isplitl [HS]; · iexact HS
    isplitl [Hr]; · iexact Hr
    isplitl [Hs]; · iexact Hs
    iexact Ho
  iintro %v585
  iintro ⟨HS, T2, B2, Ho⟩
  iapply (seq c)
  iapply (part21 B K c _ _ _ _ f _ _) $$ [HS Ho]
  · isplitl [HS]; · iexact HS
    iexact Ho
  iintro %v617 %v619
  iintro ⟨HS, T3, B3, Ho⟩
  iapply (seq c)
  iapply (part22 B K c _ _ f _ _) $$ [HS B3 Ho]
  · isplitl [HS]; · iexact HS
    isplitl [B3]; · iexact B3
    iexact Ho
  iintro ⟨HS, B3, Ho, S0, S1⟩
  iapply (seq c)
  iapply (part23 B K c _) $$ HS
  iintro ⟨HS, S2, S3, S4, S5⟩
  iapply (seq c)
  iapply (part24 B K c _) $$ HS
  iintro ⟨HS, S6, S7, S8, S9⟩
  iapply (seq c)
  iapply (part25 B K c _) $$ HS
  iintro ⟨HS, S10, S11, S12, S13⟩
  iapply (seq c)
  iapply (part26 B K c _) $$ HS
  iintro ⟨HS, S14, S15, S16⟩
  simp only [Prog.lift, Prog.bind_op, Prog.bind_ret, Prog.pure_eq_ret]
  iapply (wp_left B K c (w := 17) (.l4 2) rfl rfl rfl) $$ HS
  iintro ⟨HS, S17⟩
  iapply (ret_intro c)
  iapply Hk
  isplitl [HS Hz Hx Hw Ho]
  · isplitl [HS]; · iexact HS
    isplitl [Hz]; · iexact Hz
    isplitl [Hx]; · iexact Hx
    isplitl [Hw]; · iexact Hw
    iapply (Entails.of_eq (congrArg (ownO c) (outT_all B c f)))
    iexact Ho
  isplitl [Ha]; · iexists _; iexact Ha
  isplitl [S0 S1 S2 S3 S4 S5 H1]
  · iapply (ring_joined B c)
    isplitl [S0]; · iexact S0
    isplitl [S2]; · iexact S2
    isplitl [S4]; · iexact S4
    isplitl [S1]; · iexact S1
    isplitl [S3]; · iexact S3
    isplitl [S5]; · iexact S5
    iexact H1
  isplitl [S6 S7 S8 H2]
  · iapply (planes_joined B c)
    isplitl [S6]; · iexact S6
    isplitl [S7]; · iexact S7
    isplitl [S8]; · iexact S8
    iexact H2
  iapply (gather_joined B c)
  isplitl [S9 S10 S11 Ra Rb Rc Rd S12 S13]
  · iapply (slot0_joined B c)
    isplitl [S9 S10 S11]
    · isplitl [S9]; · iexact S9
      isplitl [S10] <;> iassumption
    isplitl [Ra Rb Rc]
    · isplitl [Ra]; · iexact Ra
      isplitl [Rb] <;> iassumption
    isplitl [Rd]; · iexact Rd
    isplitl [S12] <;> iassumption
  isplitl [S14 T1]; · (isplitl [S14] <;> iassumption)
  isplitl [S16 T2]; · (isplitl [S16] <;> iassumption)
  isplitl [T3]; · iexact T3
  isplitl [S15 B1]; · (isplitl [S15] <;> iassumption)
  isplitl [S17 B2]; · (isplitl [S17] <;> iassumption)
  iexact B3

end Cert.KernelIdeal.Run

end
-- ==== Proof.KernelIdeal.Ghost.lean ====
/-
# The ghost state at the launch

From the cells' counters at zero and the freshly minted tokens, every cell's invariant is allocated for all devices
at once and the duty tokens go to the devices that pay with them (`glob`); and what the devices owe at the start is
the credit each one's barrier and arrival cells are given (`creds`).
-/
module

public import proofs.«01_k».proof.Proof.KernelIdeal.Start
public import Idealize.ShloMosaic.Lib.Pipeline.Launch

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (B : Blocks F)

/-! ## The cells and their tokens -/

def ringCells : Finset (GSem nD τ sig) := Finset.univ.map ⟨kcell, kcell_injective⟩

/-- The tokens minted: four names at every cell. -/
def tokOf (x : (Dev nD × Option (Ch × Bool)) × Fin 4) : GSem nD τ sig × ℕ × Fin 4 := (kcell x.1, 0, x.2)
theorem tokOf_injective : Function.Injective tokOf := by
  rintro ⟨a, d⟩ ⟨a', d'⟩ h
  have h1 : a = a' := kcell_injective (congrArg (fun x : GSem nD τ sig × ℕ × Fin 4 => x.1) h)
  have h2 : d = d' := congrArg (fun x : GSem nD τ sig × ℕ × Fin 4 => x.2.2) h
  rw [h1, h2]
def ringToks : Finset (GSem nD τ sig × ℕ × Fin 4) := Finset.univ.map ⟨tokOf, tokOf_injective⟩

/-- The tokens of device `c`'s own cells. -/
def toks (c : Dev nD) : sProp 𝕄 :=
  bigSep Finset.univ fun k : Option (Ch × Bool) => bigSep Finset.univ fun d : Fin 4 => dutyTok ER (kcell (c, k)) 0 d

/-- What device `c` is dealt of the minted state. -/
def G (c : Dev nD) : sProp 𝕄 :=
  iprop((bigSep Finset.univ fun k : Option (Ch × Bool) => roundState ER (sched B) (kcell (c, k)) 0)
    ∗ (bigSep Finset.univ fun k : Option (Ch × Bool) => iprop(atPos ER (kcell (c, k)) 0 ∅ 0 ∗ reached ER (kcell (c, k)) 0)) ∗ toks c)

theorem fund_ring : BI.own (ER (initOf ringCells ringToks)) ⊢ (|==> bigSep Finset.univ (G B) : sProp 𝕄) := by
  have hX (Φ : GSem nD τ sig → sProp 𝕄) :
      bigSep ringCells Φ = bigSep Finset.univ fun c : Dev nD => bigSep Finset.univ fun k : Option (Ch × Bool) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (sched B) ringCells ringToks) $$ HX with ⟨Hst, Hr, Hat, Htok⟩
  imodintro
  ihave Hst' := (Entails.of_eq (hX fun g => roundState ER (sched B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells over a device's list -/

theorem bigSep_cells (Φ : Option (Ch × Bool) → sProp 𝕄) :
    bigSep Finset.univ Φ = iprop(Φ none ∗ bigSep Finset.univ fun k : Ch × Bool => Φ (some k)) := by
  rw [bigSep_univ_at _ none,
    show (Finset.univ.erase none : Finset (Option (Ch × Bool))) = Finset.univ.map ⟨some, Option.some_injective _⟩ from by
      ext k; cases k <;> simp, bigSep_map]
  rfl

theorem bigSep_both (Φ : Ch × Bool → sProp 𝕄) :
    bigSep Finset.univ Φ = iprop((bigSep Finset.univ fun j : Ch => Φ (j, false)) ∗ bigSep Finset.univ fun j : Ch => Φ (j, true)) := by
  rw [bigSep_univ_prod, ← bigSep_sep']
  exact bigSep_congr fun j _ => bigSep_univ_eq_bigSepL [false, true] (by decide) (by decide) _

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Ch × Bool) => semVal (kcell (c, k)) 0 : sProp 𝕄) := by
  rw [unscopedSems0_eq, bigSep_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G B c)
      ⊢ |={Set.univ}=> iprop((bigSep Finset.univ fun k => iprop(∃ κ : ℕ, cellInv ER (sched B) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Ch × Bool) => semVal (kcell (c, k)) 0)
        ∗ bigSep Finset.univ fun k : Option (Ch × Bool) => roundState ER (sched B) (kcell (c, k)) 0)
      ⊢ (|={Set.univ}=> bigSep Finset.univ fun k => iprop(∃ κ : ℕ, cellInv ER (sched B) κ (kcell (c, k))) : sProp 𝕄) from by
        rw [← bigSep_sep']
        exact (bigSep_mono fun k _ => (Rounds.body_intro ER (sched B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

/-- A device's part of a channel before its credit is counted. -/
def wired (c : Dev nD) (j : Ch) : sProp 𝕄 :=
  iprop((dutyTok ER (recvCell j (j.dst c)) 0 0 ∗ dutyTok ER (sendCell j c) 0 0)
    ∗ atPos ER (sendCell j c) 0 ∅ 0 ∗ atPos ER (recvCell j c) 0 ∅ 0)

/-- What device `c` holds of the ghost state when its body starts. -/
def linear (c : Dev nD) : sProp 𝕄 := iprop(atPos ER (barCell c) 0 ∅ 0 ∗ barToks c ∗ bigSep Finset.univ (wired c))

/-- What the global step makes of device `c`'s part. -/
def G' (c : Dev nD) : sProp 𝕄 := iprop(∃ K, records B K ∗ linear c)

def ringEquiv : Dev nD ≃ Dev nD := ⟨lf, rt, rt_lf, lf_rt⟩
def planeEquiv : Dev nD ≃ Dev nD := ⟨zp, zn, zn_zp, zp_zn⟩
def wire : Dev nD × Ch ≃ Dev nD × Ch :=
  ⟨fun x => (x.2.dst x.1, x.2), fun x => (x.2.src x.1, x.2), fun x => Prod.ext (Ch.src_dst x.2 x.1) rfl, fun x => Prod.ext (Ch.dst_src x.2 x.1) rfl⟩

theorem toks_cut (c : Dev nD) : toks (F := F) c
    ⊢ iprop((dutyTok ER (barCell c) 0 0 ∗ dutyTok ER (barCell c) 0 1 ∗ dutyTok ER (barCell c) 0 2 ∗ dutyTok ER (barCell c) 0 3)
        ∗ (bigSep Finset.univ fun j : Ch => dutyTok ER (sendCell j c) 0 0) ∗ bigSep Finset.univ fun j : Ch => dutyTok ER (recvCell j c) 0 0) := by
  unfold toks
  rw [bigSep_cells, bigSep_both, bigSep_four]
  refine sep_mono_right ?_
  exact BI.sep_mono (bigSep_mono fun j _ => bigSep_elim (Finset.mem_univ (0 : Fin 4))) (bigSep_mono fun j _ => bigSep_elim (Finset.mem_univ (0 : Fin 4)))

/-- The tokens dealt round: each barrier token to the neighbour that signals with it, each arrival token to the sender. -/
theorem toks_around : (bigSep Finset.univ fun c : Dev nD => (toks c : sProp 𝕄))
    ⊢ iprop((bigSep Finset.univ fun c : Dev nD => (barToks c : sProp 𝕄))
        ∗ (bigSep Finset.univ fun c : Dev nD => bigSep Finset.univ fun j : Ch => (dutyTok ER (sendCell j c) 0 0 : sProp 𝕄))
        ∗ bigSep Finset.univ fun c : Dev nD => bigSep Finset.univ fun j : Ch => dutyTok ER (recvCell j (j.dst c)) 0 0) := by
  refine (bigSep_mono fun c _ => toks_cut c).trans ?_
  unfold barToks
  rw [bigSep_sep', bigSep_sep', bigSep_sep', bigSep_sep', bigSep_sep', bigSep_sep', bigSep_sep', bigSep_sep',
    bigSep_univ_equiv ringEquiv (fun c : Dev nD => (dutyTok ER (barCell c) 0 0 : sProp 𝕄)),
    bigSep_univ_equiv ringEquiv.symm (fun c : Dev nD => (dutyTok ER (barCell c) 0 1 : sProp 𝕄)),
    bigSep_univ_equiv planeEquiv (fun c : Dev nD => (dutyTok ER (barCell c) 0 2 : sProp 𝕄)),
    bigSep_univ_equiv planeEquiv.symm (fun c : Dev nD => (dutyTok ER (barCell c) 0 3 : sProp 𝕄)),
    ← bigSep_univ_prod (fun x : Dev nD × Ch => (dutyTok ER (recvCell x.2 x.1) 0 0 : sProp 𝕄)),
    ← bigSep_univ_prod (fun x : Dev nD × Ch => (dutyTok ER (recvCell x.2 (x.2.dst x.1)) 0 0 : sProp 𝕄)),
    bigSep_univ_equiv wire (fun x : Dev nD × Ch => (dutyTok ER (recvCell x.2 x.1) 0 0 : sProp 𝕄))]
  exact BI.sep_mono (BI.sep_mono (BI.Entails.refl _) (BI.Entails.refl _)) (BI.Entails.refl _)

theorem reorder (A S R T X Y : sProp 𝕄) : iprop((A ∗ S ∗ R) ∗ T ∗ X ∗ Y) ⊢ iprop(A ∗ T ∗ (Y ∗ X) ∗ S ∗ R) := by
  iintro ⟨⟨Ha, Hs, Hr⟩, Ht, Hx, Hy⟩
  isplitl [Ha]; · iexact Ha
  isplitl [Ht]; · iexact Ht
  isplitl [Hx Hy]
  · isplitl [Hy] <;> iassumption
  isplitl [Hs] <;> iassumption

theorem regroup :
    (bigSep Finset.univ fun c : Dev nD => iprop((bigSep Finset.univ fun k => iprop(∃ κ : ℕ, cellInv ER (sched B) κ (kcell (c, k))))
          ∗ (bigSep Finset.univ fun k => iprop(atPos ER (kcell (c, k)) 0 ∅ 0 ∗ reached ER (kcell (c, k)) 0)) ∗ toks c) : sProp 𝕄)
      ⊢ bigSep Finset.univ (G' B) := by
  rw [bigSep_sep', bigSep_sep', ← bigSep_univ_prod (fun ck : Dev nD × Option (Ch × Bool) => iprop(∃ κ : ℕ, cellInv ER (sched B) κ (kcell ck))),
    bigSep_congr (s := Finset.univ) (fun (c : Dev nD) _ => bigSep_sep' Finset.univ
      (fun k : Option (Ch × Bool) => (atPos ER (kcell (c, k)) 0 ∅ 0 : sProp 𝕄)) (fun k => reached ER (kcell (c, k)) 0)),
    bigSep_sep', ← bigSep_univ_prod (fun ck : Dev nD × Option (Ch × Bool) => (reached ER (kcell ck) 0 : sProp 𝕄))]
  iintro ⟨HI, ⟨Hat, #HR⟩, Htok⟩
  ihave HK := (BI.bigSep_exists_pi Finset.univ (fun (ck : Dev nD × Option (Ch × Bool)) (κ : ℕ) => (cellInv ER (sched B) κ (kcell ck) : sProp 𝕄))) $$ HI
  icases HK with ⟨%K, #HI⟩
  ihave Htk := (toks_around (F := F)) $$ Htok
  icases Htk with ⟨Hbar, Hsnd, Hrcv⟩
  iapply ((sep_mono_left (BI.bigSep_of_persistent Finset.univ (records B K))).trans
    ((Entails.of_eq (bigSep_sep' Finset.univ (fun _ : Dev nD => records B K) (linear (F := F))).symm).trans
      (bigSep_mono fun c _ => show iprop(records B K ∗ linear c) ⊢ G' B c from by unfold G'; iintro H; iexists K; iexact H)))
  isplitr
  · unfold records; isplitl; · iexact HI
    iexact HR
  · iapply (show iprop((bigSep Finset.univ fun c : Dev nD => bigSep Finset.univ fun k : Option (Ch × Bool) => (atPos ER (kcell (c, k)) 0 ∅ 0 : sProp 𝕄))
        ∗ (bigSep Finset.univ fun c : Dev nD => (barToks c : sProp 𝕄))
        ∗ (bigSep Finset.univ fun c : Dev nD => bigSep Finset.univ fun j : Ch => (dutyTok ER (sendCell j c) 0 0 : sProp 𝕄))
        ∗ bigSep Finset.univ fun c : Dev nD => bigSep Finset.univ fun j : Ch => (dutyTok ER (recvCell j (j.dst c)) 0 0 : sProp 𝕄))
        ⊢ bigSep Finset.univ (linear (F := F)) from by
      rw [← bigSep_sep', ← bigSep_sep', ← bigSep_sep']
      refine bigSep_mono fun c _ => ?_
      unfold linear wired
      rw [bigSep_cells, bigSep_both, bigSep_sep', bigSep_sep', bigSep_sep']
      exact reorder _ _ _ _ _ _)
    isplitl [Hat]; · iexact Hat
    isplitl [Hbar]; · iexact Hbar
    isplitl [Hsnd] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G B c) : sProp 𝕄)
    ⊢ |={Set.univ}=> bigSep Finset.univ (G' B) :=
  ((bigSep_mono fun c _ => core_alloc B c).trans (bigSep_fupd _ _)).trans (BI.fupd_mono (regroup B))

/-! ## The launch credit -/

theorem bar_eq_iff {a b : Dev nD} : Iff (barCell a = barCell b) (a = b) :=
  ⟨fun h => congrArg Prod.fst (kcell_injective (a₁ := (a, none)) (a₂ := (b, none)) h), fun h => h ▸ rfl⟩

theorem recv_eq_iff {j k : Ch} {a b : Dev nD} : Iff (recvCell j a = recvCell k b) (j = k ∧ a = b) :=
  ⟨fun h => by
    have h := kcell_injective (a₁ := (a, some (j, true))) (a₂ := (b, some (k, true))) h
    cases h; exact ⟨rfl, rfl⟩, fun h => by rw [h.1, h.2]⟩

theorem recv_ne_bar {j : Ch} {a b : Dev nD} : recvCell j a ≠ barCell b := fun h => by cases congrArg Prod.snd h

theorem dues_recv (d c : Dev nD) (j : Ch) : dues d 0 (recvCell j c) () = if d = j.src c then amt j else 0 := by
  unfold dues
  rw [Finset.sum_apply, Finsupp.finset_sum_apply, Finset.sum_eq_single_of_mem j (Finset.mem_filter.mpr ⟨Finset.mem_univ _, Nat.zero_le _⟩)]
  · rw [tallyAt_apply]
    by_cases h : d = j.src c
    · subst h; rw [Ch.dst_src, if_pos ⟨rfl, rfl⟩, if_pos rfl]
    · rw [if_neg (fun ⟨h1, _⟩ => h (by rw [(recv_eq_iff.mp h1).2, Ch.src_dst])), if_neg h]
  · intro k _ hk
    rw [tallyAt_apply, if_neg (fun ⟨h1, _⟩ => hk (recv_eq_iff.mp h1).1.symm)]

theorem dues_bar (d c : Dev nD) : dues d 0 (barCell c) () = 0 := by
  unfold dues
  rw [Finset.sum_apply, Finsupp.finset_sum_apply]
  exact Finset.sum_eq_zero fun k _ => by rw [tallyAt_apply, if_neg (fun ⟨h1, _⟩ => recv_ne_bar h1.symm)]

theorem unit_bar (e : Dev nD ≃ Dev nD) (d c : Dev nD) :
    (tallyAt (barCell (e d)) () 1 : CellTallies nD τ sig Unit) (barCell c) () = if d = e.symm c then 1 else 0 := by
  rw [tallyAt_apply]
  by_cases h : d = e.symm c
  · subst h; rw [Equiv.apply_symm_apply, if_pos ⟨rfl, rfl⟩, if_pos rfl]
  · rw [if_neg (fun ⟨h1, _⟩ => h (by rw [bar_eq_iff.mp h1, Equiv.symm_apply_apply])), if_neg h]

theorem owed_bar (d c : Dev nD) : O₀ d (barCell c) ()
    = (if d = zp c then 1 else 0) + (if d = zn c then 1 else 0) + (if d = lf c then 1 else 0) + (if d = rt c then 1 else 0) := by
  unfold O₀ O₁ O₂ O₃
  simp only [Pi.add_apply, Finsupp.add_apply]
  rw [dues_bar, Nat.zero_add]
  exact congrArg₂ (· + ·) (congrArg₂ (· + ·) (congrArg₂ (· + ·) (unit_bar planeEquiv.symm d c) (unit_bar planeEquiv d c)) (unit_bar ringEquiv.symm d c)) (unit_bar ringEquiv d c)

theorem owed_recv (d c : Dev nD) (j : Ch) : O₀ d (recvCell j c) () = if d = j.src c then amt j else 0 := by
  unfold O₀ O₁ O₂ O₃
  simp only [Pi.add_apply, Finsupp.add_apply]
  rw [dues_recv]
  have hb (a : Dev nD) : (tallyAt (barCell a) () 1 : CellTallies nD τ sig Unit) (recvCell j c) () = 0 := by
    rw [tallyAt_apply]; exact if_neg fun h => recv_ne_bar h.1
  rw [hb, hb, hb, hb]; rfl

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_add_distrib, Finset.sum_ite_eq' Finset.univ _ fun _ => 1, Finset.sum_ite_eq' Finset.univ _ fun _ => 1,
    Finset.sum_ite_eq' Finset.univ _ fun _ => 1, Finset.sum_ite_eq' Finset.univ _ fun _ => 1,
    if_pos (Finset.mem_univ _), if_pos (Finset.mem_univ _), if_pos (Finset.mem_univ _), if_pos (Finset.mem_univ _)]

theorem launch_recv (c : Dev nD) (j : Ch) :
    tallyOn (recvCell j c) (launchCredit (Pipeline.owing O₀) 0 (recvCell j c)) = (tallyAt (recvCell j c) () (amt j) : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (j.src c) fun _ => amt j,
    if_pos (Finset.mem_univ _)]

theorem rsem_injective : Function.Injective fun j : Ch => (SemLoc.dma (rsem j) : SemLoc sig) := fun j k h => by
  have := csem_injective (a₁ := some (j, true)) (a₂ := some (k, true)) h
  cases this; rfl

/-- The launch's credit on a device: its barrier's four units and each of its arrivals. -/
theorem creds (c : Dev nD) :
    (Pipeline.launchCred O₀ c : sProp 𝕄)
      ⊢ iprop(cred (tallyAt (barCell c) () 4) ∗ bigSep Finset.univ fun j : Ch => cred (tallyAt (recvCell j c) () (amt j))) := by
  unfold Pipeline.launchCred
  rw [bigSep_univ_at _ (SemLoc.reg barS), launch_bar]
  refine sep_mono_right ?_
  rw [show (fun j : Ch => (cred (tallyAt (recvCell j c) () (amt j)) : sProp 𝕄))
      = fun j => cred (tallyOn (recvCell j c) (launchCredit (Pipeline.owing O₀) 0 (recvCell j c))) from funext fun j => by rw [launch_recv]]
  have e := bigSep_map (s := Finset.univ) ⟨fun j : Ch => (SemLoc.dma (rsem j) : SemLoc sig), rsem_injective⟩ (Φ := fun sm : SemLoc sig =>
    (cred (tallyOn ((c : Thread nD τ), sm) (launchCredit (Pipeline.owing O₀) 0 ((c : Thread nD τ), sm))) : sProp 𝕄))
  refine BIBase.Entails.trans ?_ (Entails.of_eq e)
  refine bigSep_subset fun sm h => ?_
  obtain ⟨j, -, rfl⟩ := Finset.mem_map.mp h
  exact Finset.mem_erase.mpr ⟨(by intro h; cases h), Finset.mem_univ _⟩

end Cert.KernelIdeal.Run

end
-- ==== Proof.KernelIdeal.Run.lean ====
/-
# The run

The body put into the launch: from any memory with zero counters every execution ends, each device's output array
holds `outV` of the launched blocks, the arguments are unchanged and every counter is zero (`run_main`,
`run_result`).
-/
module

public import proofs.«01_k».proof.Proof.KernelIdeal.Body
public import proofs.«01_k».proof.Proof.KernelIdeal.Ghost
public import proofs.«01_k».proof.Proof.Gen.KernelIdeal.Points
public import Idealize.ShloMosaic.Lib.Pipeline.Kit
public import Idealize.ShloMosaic.Lib.Tactic
public import Idealize.ShloMosaic.Lib.Pipeline.CollectiveSegs

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def start₀ : MemSt nD τ sig (Elt F) := ⟨m, fun _ => 0, ρ⟩

/-- The devices' blocks as launched. -/
def blocks : Blocks F where
  x c := (win0_0.blk (0 : Fin 1)).view.read (Elt F) (m ((c : Thread nD τ).loc main_arg0))
  w c := (win0_1.blk (0 : Fin 1)).view.read (Elt F) (m ((c : Thread nD τ).loc main_arg1))

/-! ## The proof data -/

/-- What device `c`'s body starts from: the ghost state, the credit and the levels. -/
def start (c : Dev nD) : sProp 𝕄 :=
  iprop(G' (blocks m) c ∗ (cred (tallyAt (barCell c) () 4) ∗ bigSep Finset.univ fun j : Ch => cred (tallyAt (recvCell j c) () (amt j))) ∗ levAts L lv)

/-- The scratch buffers at some contents. -/
def scratch (c : Dev nD) : sProp 𝕄 :=
  iprop((∃ f, own0 (F := F) c f) ∗ some1 (F := F) c Finset.univ ∗ some2 (F := F) c Finset.univ ∗ some4 (F := F) c Finset.univ)

def Φ₀ (c : Dev nD) : sProp 𝕄 := iprop(start m c ∗ scratch c)
/-- After the point: the scratch buffers back and every cell closed at zero. -/
def Φ₁ (c : Dev nD) : sProp 𝕄 :=
  iprop(scratch (F := F) c ∗ semVal (barCell c) 0 ∗ bigSep Finset.univ fun k : Ch × Bool => semVal ((c : Thread nD τ), osem k) 0)

def dats (_ : Fin 1) (c : Dev nD) : Dat τ (Elt F) Unit ℕ UU ℕ cfg0 c where
  A w := m ((cfg0.win w).arr.view.loc (c : Thread nD τ))
  after w _ := match w with
    | ⟨0, _⟩ => (blocks m).x c
    | ⟨1, _⟩ => (blocks m).w c
    | ⟨2, _⟩ => outV (blocks m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ (F := F) c ∗ (dats m 0 c).owesAt () (t0_0 : Fin cfg0.N).succ
    ∗ stg c cc0_stg0_0 ((blocks m).x c) ∗ stg c cc0_stg1_0 ((blocks m).w c) ∗ stg c cc0_stg2_0 (outV (blocks m) c))

/-- The channels' state at the end is the cells closed at zero. -/
theorem closed (c : Dev nD) : bigSep Finset.univ (chSt (F := F) 18 18 18 c)
    ⊢ bigSep Finset.univ fun k : Ch × Bool => (semVal ((c : Thread nD τ), osem k) 0 : sProp 𝕄) := by
  rw [bigSep_both, ← bigSep_sep']
  refine bigSep_mono fun j _ => ?_
  have h := Ch.ord_lt j
  unfold chSt
  rw [if_neg (by omega), if_neg (by omega), if_neg (by omega), if_neg (by omega)]
  show iprop(emp ∗ emp ∗ semVal (sendCell j c) 0 ∗ semVal (recvCell j c) 0) ⊢ iprop(semVal (sendCell j c) 0 ∗ semVal (recvCell j c) 0)
  iintro ⟨-, -, H⟩
  iexact H

/-- Device `c`'s ghost state and credit are the body's start. -/
theorem starting (c : Dev nD) (K : Dev nD × Option (Ch × Bool) → ℕ) :
    iprop((records (blocks m) K ∗ linear c)
        ∗ (cred (tallyAt (barCell c) () 4) ∗ bigSep Finset.univ fun j : Ch => cred (tallyAt (recvCell j c) () (amt j))) ∗ levAts L lv
        ∗ ∃ W, owes (c : Thread nD τ) (O₀ c) W)
      ⊢ St₀ (blocks m) K c := by
  unfold St₀ linear
  iintro ⟨⟨HR, Ha, Ht, Hw⟩, ⟨Hcb, Hcr⟩, Hl, Ho⟩
  isplitl [HR]; · iexact HR
  isplitl [Hl]; · iexact Hl
  isplitl [Ho]; · iexact Ho
  isplitl [Ha Hcb]; · (isplitl [Ha] <;> iassumption)
  isplitl [Ht]; · iexact Ht
  iapply (show iprop(bigSep Finset.univ (wired (F := F) c) ∗ bigSep Finset.univ fun j : Ch => (cred (tallyAt (recvCell j c) () (amt j)) : sProp 𝕄))
      ⊢ bigSep Finset.univ (idle (F := F) c) from by
    rw [← bigSep_sep']
    refine bigSep_mono fun j _ => ?_
    show iprop(wired c j ∗ cred (tallyAt (recvCell j c) () (amt j))) ⊢ idle c j
    unfold wired idle
    iintro ⟨⟨H1, H2, H3⟩, H4⟩
    isplitl [H1]; · iexact H1
    isplitl [H2]; · iexact H2
    isplitl [H3] <;> iassumption)
  isplitl [Hw] <;> iassumption

theorem sound_body (c : Dev nD) :
    bodyPre m c ⊢ WP c (onBufs (cc0_body (F := F))) (fun _ => bodyPost m c) := by
  unfold bodyPre Φ₀ start G'
  iintro ⟨⟨⟨⟨%K, Hg⟩, Hcr, Hl⟩, Hscr⟩, Ho, ⟨%d0, %f0, %h0, Hx⟩, ⟨%d1, %f1, %h1, Hw⟩, ⟨%d2, %f2, %h2, Hout⟩⟩
  unfold Dat.owesAt Pipeline.owesWithin
  icases Ho with ⟨%W, %hW, HO⟩
  have hx : f0 = (blocks m).x c := by rw [h0]; unfold Dat.before; rw [if_pos (fetch0_0 t0_0)]; rfl
  have hw : f1 = (blocks m).w c := by rw [h1]; unfold Dat.before; rw [if_pos (fetch0_1 t0_0)]; rfl
  subst hx hw
  iapply (body (blocks m) K c (fun _ => bodyPost m c)) $$ [Hg Hcr Hl Hscr HO Hx Hw Hout]
  · isplitr [Hscr]
    · isplitl [Hg Hcr Hl HO]
      · iapply (starting m c K)
        isplitl [Hg]; · iexact Hg
        isplitl [Hcr]; · iexact Hcr
        isplitl [Hl]; · iexact Hl
        iexists W; iexact HO
      isplitl [Hx]; · iexact Hx
      isplitl [Hw]; · iexact Hw
      iexists f2; unfold ownO; iexact Hout
    unfold scratch; iexact Hscr
  iintro ⟨⟨HS, Hb, Hx, Hw, Hout⟩, Hscr⟩
  unfold St
  icases HS with ⟨-, -, ⟨%W', HO⟩, Hch⟩
  unfold bodyPost Φ₁ Dat.owesAt Pipeline.owesWithin scratch
  isplitl [Hscr Hb Hch]
  · isplitl [Hscr]; · iexact Hscr
    isplitl [Hb]; · iexact Hb
    iapply (closed c); iexact Hch
  isplitl [HO]
  · iexists W'; isplitr
    · ipureintro; exact fun _ _ => Or.inl trivial
    iapply (Entails.of_eq (show (owes (c : Thread nD τ) (dues c 18) W' : sProp 𝕄) = owes (c : Thread nD τ) 0 W' from by rw [dues_last])); iexact HO
  isplitl [Hx]
  · iexists _; isplitr; · (ipureintro; rfl)
    iexact Hx
  isplitl [Hw]
  · iexists _; isplitr; · (ipureintro; rfl)
    iexact Hw
  iexists _; isplitr; · (ipureintro; rfl)
  unfold ownO; iexact Hout

theorem body_obligation (c : Dev nD) : BodyObligation (dats (F := F) m 0 c) (defs₀ (F := F)) 𝒱₀ () Set.univ := fun t => by
  rw [show t = t0_0 from fin_N0 t]
  rw [bigSep_W, bigSep_W]
  simp only [owns_whole_eq]
  show bodyPre m c ⊢ WP c (onBufs (cc0_body (F := F))) (fun _ => bodyPost m c)
  exact sound_body m c

/-! ## The launch -/

theorem share_eq (c : Dev nD) (w : Fin cfg0.W) : (dats m 0 c).share w = fullShare := by unfold Dat.share; split <;> rfl

def u₀ : UU :=
  (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blocks m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scratch_eq (c : Dev nD) : (Pipeline.scopedRest (Ix := Unit) (Name := ℕ) (U := UU) (Lvl := ℕ) (Val := Elt F) cfg0.spec c : sProp 𝕄) = scratch c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq, unscopedSems0_eq]
  unfold Φ₁ Pipeline.ownSems0
  iintro ⟨Hr, Hb, Hs⟩
  isplitl [Hb]; · iexact Hb
  isplitl [Hs] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m 0 c).arrAt w cfg0.N

/-- From any memory with zero counters: every weakly fair execution of @main terminates with each window's array at
    the computed contents and every semaphore counter at zero. -/
theorem run_main : θ_run defs (onTc (τ := τ) main) (start₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (blocks m)) (G' := G' (blocks m)) (u₀ := u₀)
    (hu₀ := by
      unfold u₀
      iintro Hu
      ihave H := (ownU_pair _ _) $$ Hu
      icases H with ⟨HP, HX⟩
      imod (fund_ring (blocks m)) $$ HX with HG
      imodintro
      isplitl [HP] <;> iassumption)
    (hglob := glob (blocks m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The one block of each array is the whole of it. -/
theorem read_x (f : Vec F S1024x64 .bf16) : (win0_0.blk (0 : Fin 1)).view.read (Elt F) f = f :=
  funext fun y => congrArg f (emb_all (s := S1024x64) (funext fun a => Nat.zero_mul _) _ y)
theorem read_w (f : Vec F S64x1024 .bf16) : (win0_1.blk (0 : Fin 1)).view.read (Elt F) f = f :=
  funext fun y => congrArg f (emb_all (s := S64x1024) (funext fun a => Nat.zero_mul _) _ y)
theorem read_out (f : Vec F S1024x1024 .f32) : (win0_2.blk (0 : Fin 1)).view.read (Elt F) f = f :=
  funext fun y => congrArg f (emb_all (s := S1024x1024) (funext fun a => Nat.zero_mul _) _ y)

theorem blocks_x (c : Dev nD) : (blocks m).x c = m ((c : Thread nD τ).loc main_arg0) :=
  read_x (F := F) (m ((c : Thread nD τ).loc main_arg0))
theorem blocks_w (c : Dev nD) : (blocks m).w c = m ((c : Thread nD τ).loc main_arg1) :=
  read_w (F := F) (m ((c : Thread nD τ).loc main_arg1))

/-- The result array after the run holds the output block. -/
theorem finalA_out (c : Dev nD) : finalA m c (2 : Fin 3) = outV (blocks m) c :=
  (dats m 0 c).arrAt_eq_of_cover (2 : Fin 3) (outV (blocks m) c)
    (fun t _ => by
      rw [show t = t0_0 from fin_N0 t]
      refine Eq.trans ?_ (read_out (outV (blocks m) c)).symm
      unfold Dat.flushed
      rfl)
    (fun i => ⟨t0_0, flush0_2 t0_0, by
      have e := emb_all (s := S1024x1024) (off := fun a => win0_2.index t0_0 a * S1024x1024.size a) (funext fun a => Nat.zero_mul _)
        (fun a => by rw [show win0_2.index t0_0 a = 0 from rfl, Nat.zero_mul, Nat.zero_add]) i
      exact Finset.mem_map.mpr ⟨i, Finset.mem_univ _, e⟩⟩)

/-- The run read at the result and the arguments. -/
theorem run_result : θ_run defs (onTc (τ := τ) main) (start₀ m ρ) (fun r => (∀ c : Dev nD,
      r.2.mem ((c.tc : Thread nD τ).loc main_v1) = outV (blocks m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (finalA_out m c),
    (h.1 c (0 : Fin 3)).trans ((dats m 0 c).arrAt_in (0 : Fin 3) rfl _),
    (h.1 c (1 : Fin 3)).trans ((dats m 0 c).arrAt_in (1 : Fin 3) rfl _)⟩, h.2⟩) (run_main m ρ)

end Cert.KernelIdeal.Run

end
-- ==== Proof.KernelIdeal.Same.lean ====
/-
# One program in two texts

The program printed for reading at the ideal instance is, operation for operation, the program itself: the two body
tables are equal at every instance (`defs_eq`), so a run of the one is a run of the other (`kernel_run`).
-/
module

public import proofs.«01_k».proof.Proof.Gen.Kernel
public import proofs.«01_k».proof.Proof.KernelIdeal.Run

@[expose] public section

set_option maxRecDepth 100000

namespace Cert.KernelIdeal.Run

open Idealize.ShloMosaic Idealize.ShloMosaic.TcCoe Idealize.SL.Sem

variable {F : FTy → Type} [FloatOps F]

/-- The kernels' tables: the one body, printed twice. -/
theorem kernels_eq : Cert.Kernel.defs₀ (F := F) = Cert.KernelIdeal.defs₀ (F := F) := by
  funext pr ℓ a
  match pr, ℓ, a with
  | .tc, ⟨0, _⟩, (t, s) => rfl
  | .tc, ⟨_ + 1, h⟩, _ => exact absurd h (Nat.not_lt.2 (Nat.le_add_left _ _))
  | .scScalar _, _, _ => rfl
  | .scVector _ _, _, _ => rfl

theorem defs_eq : Cert.Kernel.defs (F := F) = Cert.KernelIdeal.defs (F := F) :=
  congrArg (Pipeline.defs Cert.KernelIdeal.pcfgs) kernels_eq

/-- The run of the kernel as first printed. -/
theorem kernel_run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq]
  exact (θ_run (Cert.KernelIdeal.defs (F := F)) _ _).mono (fun _ h => ⟨fun c => (h.1 c).2, h.2⟩) (run_result (F := F) m ρ)

end Cert.KernelIdeal.Run

end
-- ==== Proof.KernelIdeal.Sums.lean ====
/-
# The rings' sums over the extended reals

At the ideal values the last slot of the ring's reduce-scatter holds, at each row, the sum of a plane's four products
(`a1_three`), the last slot through the planes the sum of all sixteen (`a2_three`), and every device's output at every
entry is SiLU of the sixteen products' sum (`outV_apply`).
-/
module

public import proofs.«01_k».proof.Proof.KernelIdeal.Contents
public import Idealize.ShloMosaic.Lib.Pipeline.Value
public import Idealize.ShloMosaic.PureOps.Ideal.Laws

@[expose] public section

set_option maxRecDepth 16384

noncomputable section

namespace Cert.KernelIdeal.Run

open Cert.KernelIdeal Cert.KernelIdeal.Gen
open Idealize.ShloMosaic
open Idealize.ShloMosaic.TcCoe

variable (B : Blocks Ideal)

/-! ## The stored values, entry by entry -/

/-- Two indices with the same coordinates are equal. -/
theorem at2_congr {a a' b b' : ℕ} (ha : a % 1024 = a' % 1024) (hb : b % 1024 = b' % 1024) : at2 a b = at2 a' b' :=
  funext fun x => Fin.ext <| match x with
    | ⟨0, _⟩ => ha
    | ⟨1, _⟩ => hb

theorem at1_congr {a a' b b' : ℕ} (ha : a % 256 = a' % 256) (hb : b % 1024 = b' % 1024) : at1 a b = at1 a' b' :=
  funext fun x => Fin.ext <| match x with
    | ⟨0, _⟩ => rfl
    | ⟨1, _⟩ => ha
    | ⟨2, _⟩ => hb

/-- A 256-row block given a unit axis, at an entry. -/
theorem addUnit256 (v : Vec Ideal S256x1024 .bf16) (i j : ℕ) :
    shapeCast S1x256x1024 v shapeCasts_S256x1024_S1x256x1024 (at1 i j) = v (ix (s := S256x1024) (by decide) ![i, j]) :=
  (shapeCast_addUnit_apply ![256, 1024] v _ _).trans <| congrArg v <| funext fun x => Fin.ext <| match x with
    | ⟨0, _⟩ => rfl
    | ⟨1, _⟩ => rfl

/-- A 256-row block stripped of its unit axis, at an entry. -/
theorem dropUnit256 (v : Vec Ideal S1x256x1024 .bf16) (i j : ℕ) :
    shapeCast S256x1024 v shapeCasts_S1x256x1024_S256x1024 (ix (s := S256x1024) (by decide) ![i, j]) = v (at1 i j) :=
  (shapeCast_dropUnit_apply ![256, 1024] v _ _).trans <| congrArg v <| funext fun x => Fin.ext <| match x with
    | ⟨0, _⟩ => rfl
    | ⟨1, _⟩ => rfl
    | ⟨2, _⟩ => rfl

/-- A 64-row block given a unit axis, at an entry. -/
theorem addUnit64 (v : Vec Ideal S64x1024 .bf16) (i j : ℕ) :
    shapeCast S1x64x1024 v shapeCasts_S64x1024_S1x64x1024 (at1' i j) = v (at64 i j) :=
  (shapeCast_addUnit_apply ![64, 1024] v _ _).trans <| congrArg v <| funext fun x => Fin.ext <| match x with
    | ⟨0, _⟩ => rfl
    | ⟨1, _⟩ => rfl

/-- A 64-row block stripped of its unit axis, at an entry. -/
theorem dropUnit64 (v : Vec Ideal S1x64x1024 .bf16) (i j : ℕ) :
    shapeCast S64x1024 v shapeCasts_S1x64x1024_S64x1024 (at64 i j) = v (at1' i j) :=
  (shapeCast_dropUnit_apply ![64, 1024] v _ _).trans <| congrArg v <| funext fun x => Fin.ext <| match x with
    | ⟨0, _⟩ => rfl
    | ⟨1, _⟩ => rfl
    | ⟨2, _⟩ => rfl

/-- What the ring adds, whole. -/
theorem pay3_eq (u v : Vec Ideal S128x1024 .f32) (b : Vec Ideal S1x256x1024 .bf16) :
    k0_pay3 u v b = shapeCast S1x256x1024 (fun y : S256x1024.Idx => (shapeCast S256x1024 b shapeCasts_S1x256x1024_S256x1024 y
      + concatenate S256x1024 0 [⟨S128x1024, u⟩, ⟨S128x1024, v⟩] concatenates_S128x1024_S128x1024_S256x1024_d0 y : EReal))
      shapeCasts_S256x1024_S1x256x1024 := rfl

/-- What the ring adds, at an entry of the upper half. -/
theorem pay3_upper (u v : Vec Ideal S128x1024 .f32) (b : Vec Ideal S1x256x1024 .bf16) {i : ℕ} (j : ℕ) (hi : i < 128) :
    k0_pay3 u v b (at1 i j) = b (at1 i j) + u (ix (s := S128x1024) (by decide) ![i, j]) := by
  rw [pay3_eq, addUnit256, dropUnit256]
  refine congrArg (b (at1 i j) + ·) (concatenate_pair_apply_left (t := S256x1024) 0 u v _ _ rfl _ fun x => ?_)
  match x with
  | ⟨0, _⟩ => show i % 128 = i % 256; omega
  | ⟨1, _⟩ => rfl

/-- What the ring adds, at an entry of the lower half. -/
theorem pay3_lower (u v : Vec Ideal S128x1024 .f32) (b : Vec Ideal S1x256x1024 .bf16) {i : ℕ} (j : ℕ) (hi : ¬ i < 128) (h : i < 256) :
    k0_pay3 u v b (at1 i j) = b (at1 i j) + v (ix (s := S128x1024) (by decide) ![i - 128, j]) := by
  rw [pay3_eq, addUnit256, dropUnit256]
  refine congrArg (b (at1 i j) + ·) (concatenate_pair_apply_right (t := S256x1024) 0 u v _ _ rfl rfl _ (fun x => ?_) ?_)
  · match x with
    | ⟨0, _⟩ => intro hx; exact absurd rfl hx
    | ⟨1, _⟩ => intro _; rfl
  · show (i - 128) % 128 + 128 = i % 256; omega

/-- What the planes add, whole. -/
theorem pay7_eq (u v : Vec Ideal S1x64x1024 .bf16) :
    k0_pay7 u v = shapeCast S1x64x1024 (fun y : S64x1024.Idx => (shapeCast S64x1024 u shapeCasts_S1x64x1024_S64x1024 y
      + shapeCast S64x1024 v shapeCasts_S1x64x1024_S64x1024 y : EReal)) shapeCasts_S64x1024_S1x64x1024 := rfl

/-- What the planes add, at an entry. -/
theorem pay7_apply (u v : Vec Ideal S1x64x1024 .bf16) (i j : ℕ) : k0_pay7 u v (at1' i j) = u (at1' i j) + v (at1' i j) := by
  rw [pay7_eq, addUnit64, dropUnit64, dropUnit64]

/-! ## The ring -/

/-- The first slot is the device's own quarter. -/
theorem a1_zero (c : Dev nD) {i : ℕ} (j : ℕ) (h : i < 256) : a1 B 0 c (at1 i j) = accV B c (at2 (256 * pc c + i) j) := by
  have e : a1 B 0 c = shapeCast S1x256x1024 (rows256 (accV B c) (256 * pc c)) shapeCasts_S256x1024_S1x256x1024 := rfl
  rw [e]
  refine (addUnit256 (rows256 (accV B c) (256 * pc c)) i j).trans (congrArg (accV B c) (at2_congr ?_ ?_))
  · show (256 * pc c + i % 256) % 1024 = _; omega
  · show j % 1024 % 1024 = _; omega

/-- An upper row of the next slot: what the left neighbour stored and the device's own row. -/
theorem a1_upper (s : ℕ) (c : Dev nD) {i : ℕ} (j : ℕ) (h : i < 128) :
    a1 B (s + 1) c (at1 i j) = a1 B s (lf c) (at1 i j) + accV B c (at2 (256 * ((pc c + 3 - s) % 4) + i) j) := by
  refine (pay3_upper _ _ _ j h).trans (congrArg₂ (· + ·) (if_pos ?_) (congrArg (accV B c) (at2_congr ?_ ?_)))
  · show i % 256 < 128; omega
  · show (256 * ((pc c + 3 - s) % 4) + i % 128) % 1024 = _; omega
  · show j % 1024 % 1024 = _; omega

/-- A lower row: what the right neighbour stored and the device's own. -/
theorem a1_lower (s : ℕ) (c : Dev nD) {i : ℕ} (j : ℕ) (h : ¬ i < 128) (h' : i < 256) :
    a1 B (s + 1) c (at1 i j) = a1 B s (rt c) (at1 i j) + accV B c (at2 (256 * ((pc c + s + 1) % 4) + i) j) := by
  refine (pay3_lower _ _ _ j h h').trans (congrArg₂ (· + ·) (if_neg ?_) (congrArg (accV B c) (at2_congr ?_ ?_)))
  · show ¬ i % 256 < 128; omega
  · show (256 * ((pc c + s + 1) % 4) + 128 + (i - 128) % 128) % 1024 = _; omega
  · show j % 1024 % 1024 = _; omega

/-- The quarter of the product whose sum place `p` ends with, at a row of a slot. -/
def quarter (p i : ℕ) : ℕ := if i < 128 then (p + 1) % 4 else (p + 3) % 4

/-- A sum that walks once around a ring of four is the sum over the ring. -/
theorem ring_sum (f : ℕ → EReal) (hf : ∀ a b, a % 4 = b % 4 → f a = f b) (p : ℕ) :
    f (p + 1) + f (p + 2) + f (p + 3) + f p = ∑ t : Fin 4, f t.val ∧ f (p + 3) + f (p + 2) + f (p + 1) + f p = ∑ t : Fin 4, f t.val := by
  rw [Fin.sum_univ_four]
  show _ = f 0 + f 1 + f 2 + f 3 ∧ _ = f 0 + f 1 + f 2 + f 3
  rcases (by omega : p % 4 = 0 ∨ p % 4 = 1 ∨ p % 4 = 2 ∨ p % 4 = 3) with h | h | h | h
  · rw [hf (p + 1) 1 (by omega), hf (p + 2) 2 (by omega), hf (p + 3) 3 (by omega), hf p 0 (by omega)]
    constructor <;> abel
  · rw [hf (p + 1) 2 (by omega), hf (p + 2) 3 (by omega), hf (p + 3) 0 (by omega), hf p 1 (by omega)]
    constructor <;> abel
  · rw [hf (p + 1) 3 (by omega), hf (p + 2) 0 (by omega), hf (p + 3) 1 (by omega), hf p 2 (by omega)]
    constructor <;> abel
  · rw [hf (p + 1) 0 (by omega), hf (p + 2) 1 (by omega), hf (p + 3) 2 (by omega), hf p 3 (by omega)]
    constructor <;> abel

theorem lf_dv (z p : ℕ) : lf (dv z p) = dv z (p + 3) := by
  unfold lf; rw [zc_dv, pc_dv]; exact dv_congr (by omega) (by omega)
theorem rt_dv (z p : ℕ) : rt (dv z p) = dv z (p + 1) := by
  unfold rt; rw [zc_dv, pc_dv]; exact dv_congr (by omega) (by omega)
theorem zp_dv (z p : ℕ) : zp (dv z p) = dv (z + 3) p := by
  unfold zp; rw [zc_dv, pc_dv]; exact dv_congr (by omega) (by omega)

/-- The last slot holds the plane's sum of that quarter. -/
theorem a1_three (z p : ℕ) {i : ℕ} (j : ℕ) (h : i < 256) :
    a1 B 3 (dv z p) (at1 i j) = ∑ t : Fin 4, accV B (dv z t.val) (at2 (256 * quarter p i + i) j) := by
  have key := ring_sum (fun t => accV B (dv z t) (at2 (256 * quarter p i + i) j))
    (fun a b hab => by rw [dv_congr rfl hab]) p
  by_cases hi : i < 128
  · rw [← key.1, a1_upper B 2 _ j hi, a1_upper B 1 _ j hi, a1_upper B 0 _ j hi, a1_zero B _ j h, lf_dv, lf_dv, lf_dv]
    have hq : quarter p i = (p + 1) % 4 := if_pos hi
    rw [hq]
    simp only [pc_dv]
    rw [dv_congr rfl (by omega : (p + 3 + 3 + 3) % 4 = (p + 1) % 4), dv_congr rfl (by omega : (p + 3 + 3) % 4 = (p + 2) % 4)]
    refine congrArg₂ (· + ·) (congrArg₂ (· + ·) (congrArg₂ (· + ·) ?_ ?_) ?_) ?_ <;>
      refine congrArg (accV B _) (at2_congr ?_ rfl) <;> omega
  · rw [← key.2, a1_lower B 2 _ j hi h, a1_lower B 1 _ j hi h, a1_lower B 0 _ j hi h, a1_zero B _ j h, rt_dv, rt_dv, rt_dv]
    have hq : quarter p i = (p + 3) % 4 := if_neg hi
    rw [hq]
    simp only [pc_dv]
    rw [dv_congr rfl (by omega : (p + 1 + 1 + 1) % 4 = (p + 3) % 4), dv_congr rfl (by omega : (p + 1 + 1) % 4 = (p + 2) % 4)]
    refine congrArg₂ (· + ·) (congrArg₂ (· + ·) (congrArg₂ (· + ·) ?_ ?_) ?_) ?_ <;>
      refine congrArg (accV B _) (at2_congr ?_ rfl) <;> omega

/-! ## The planes -/

/-- 64 rows of the last slot, at an entry. -/
theorem part64_apply (c : Dev nD) {b i : ℕ} (j : ℕ) (h : i < 64) (hb : b + 64 ≤ 256) :
    part64 B c b (at1' i j) = a1 B 3 c (at1 (b + i) j) := by
  refine congrArg (a1 B 3 c) (at1_congr ?_ ?_)
  · show (b + i % 64) % 256 % 256 = _; omega
  · show j % 1024 % 1024 % 1024 = _; omega

theorem a2_zero (c : Dev nD) {i : ℕ} (j : ℕ) (h : i < 64) : a2 B 0 c (at1' i j) = a1 B 3 c (at1 (64 * zc c + i) j) := by
  refine (addUnit64 _ i j).trans ((dropUnit64 _ i j).trans (part64_apply B c j h ?_))
  have := zc_lt c; omega

theorem a2_succ (s : ℕ) (c : Dev nD) {i : ℕ} (j : ℕ) (h : i < 64) :
    a2 B (s + 1) c (at1' i j) = a2 B s (zp c) (at1' i j) + a1 B 3 c (at1 (64 * ((zc c + 3 - s) % 4) + i) j) := by
  refine (pay7_apply _ _ i j).trans (congrArg _ (part64_apply B c j h ?_))
  omega

/-- The last slot holds the sum over the planes of the 64 rows that are the device's. -/
theorem a2_three (z p : ℕ) {i : ℕ} (j : ℕ) (h : i < 64) :
    a2 B 3 (dv z p) (at1' i j) = ∑ t : Fin 4, a1 B 3 (dv t.val p) (at1 (64 * ((z + 1) % 4) + i) j) := by
  have key := ring_sum (fun t => a1 B 3 (dv t p) (at1 (64 * ((z + 1) % 4) + i) j)) (fun a b hab => by rw [dv_congr hab rfl]) z
  rw [← key.1, a2_succ B 2 _ j h, a2_succ B 1 _ j h, a2_succ B 0 _ j h, a2_zero B _ j h, zp_dv, zp_dv, zp_dv]
  simp only [zc_dv]
  rw [dv_congr (by omega : (z + 3 + 3 + 3) % 4 = (z + 1) % 4) rfl, dv_congr (by omega : (z + 3 + 3) % 4 = (z + 2) % 4) rfl]
  refine congrArg₂ (· + ·) (congrArg₂ (· + ·) (congrArg₂ (· + ·) ?_ ?_) ?_) ?_ <;>
    refine congrArg (a1 B 3 _) (at1_congr ?_ rfl) <;> omega

/-- The sum of the sixteen devices' products, at an entry. -/
def total (r j : ℕ) : EReal := ∑ z : Fin 4, ∑ p : Fin 4, accV B (dv z.val p.val) (at2 r j)

/-- SiLU as the kernel takes it. -/
def silu (y : EReal) : EReal := y * Ideal.logistic y

/-- The finished rows of device (z, p): SiLU of the whole sum, at the rows of its quarter's slot. -/
theorem fin32_apply (z p : ℕ) {i : ℕ} (j : ℕ) (h : i < 64) :
    fin32 B (dv z p) (at64 i j) = silu (total B (256 * quarter p (64 * ((z + 1) % 4) + i) + (64 * ((z + 1) % 4) + i)) j) := by
  have e : shapeCast S64x1024 (a2 B 3 (dv z p)) shapeCasts_S1x64x1024_S64x1024 (at64 i j)
      = total B (256 * quarter p (64 * ((z + 1) % 4) + i) + (64 * ((z + 1) % 4) + i)) j := by
    rw [dropUnit64, a2_three B z p j h]
    exact Finset.sum_congr rfl fun t _ => a1_three B t.val p j (by omega)
  rw [← e]; rfl

/-! ## The output -/

/-- The output of any device at any entry is the finished entry of the device that holds it. -/
theorem outV_fin (c : Dev nD) {r j : ℕ} (hr : r < 1024) (hj : j < 1024) :
    outV B c (at2 r j) = fin32 B (dv (r % 256 / 64 + 3) (org (pc c) (slotOf (pc c) r) (r % 256))) (at64 (r % 64) j) := by
  have hp := pc_lt c
  have hz := zc_lt c
  have e0 : ((at2 r j) (0 : Fin 2)).val = r := Nat.mod_eq_of_lt hr
  have e1 : ((at2 r j) (1 : Fin 2)).val = j := Nat.mod_eq_of_lt hj
  unfold outV
  rw [e0, e1]
  split
  · next h =>
    refine congrArg (fun d => fin32 B d (at64 (r % 64) j)) ?_
    rw [h.1]
    refine (dv_zc_pc c).symm.trans (dv_congr ?_ ?_)
    · have := h.2; omega
    · unfold org; split <;> omega
  · next h =>
    have hs : slotOf (pc c) r < 4 := by unfold slotOf; split <;> omega
    have f0 : ((at4 (slotOf (pc c) r) (r % 256) j) (0 : Fin 3)).val = slotOf (pc c) r := Nat.mod_eq_of_lt hs
    have f1 : ((at4 (slotOf (pc c) r) (r % 256) j) (1 : Fin 3)).val = r % 256 := Nat.mod_mod _ _
    have f2 : ((at4 (slotOf (pc c) r) (r % 256) j) (2 : Fin 3)).val = j := Nat.mod_eq_of_lt hj
    show A4 B c (at4 (slotOf (pc c) r) (r % 256) j) = _
    unfold A4
    rw [f0, f1, f2, (by omega : r % 256 % 64 = r % 64)]
    exact addUnit64 (fin32 B _) _ _

/-- The row of the output that slot's row stands for. -/
theorem row_eq {p r : ℕ} (hp : p < 4) (hr : r < 1024) :
    256 * quarter (org p (slotOf p r) (r % 256)) (r % 256) + r % 256 = r := by
  unfold quarter org slotOf
  split <;> omega

/-- Every device's output, at every entry, is SiLU of the sum of the sixteen products. -/
theorem outV_apply (c : Dev nD) {r j : ℕ} (hr : r < 1024) (hj : j < 1024) : outV B c (at2 r j) = silu (total B r j) := by
  rw [outV_fin B c hr hj, fin32_apply B _ _ j (by omega)]
  rw [(by omega : 64 * ((r % 256 / 64 + 3 + 1) % 4) + r % 64 = r % 256), row_eq (pc_lt c) hr]

end Cert.KernelIdeal.Run

end
-- ==== Proof.KernelIdeal.Equation.lean ====
/-
# The kernel computes the reference

Over the extended reals: when the devices' blocks are those of two whole matrices, the sum of the sixteen devices'
products is the product of the matrices (`total_eq`), y · logistic y is y / (1 + exp(−y)) (`silu_eq`), and so every
device's output is the reference's term (`outV_eq`).
-/
module

public import proofs.«01_k».proof.Proof.KernelIdeal.Sums
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.IdealHost

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx Idealize.ShloMosaic.StackMember

/-! ## SiLU -/

/-- One plus an exponential is not zero. -/
theorem one_add_exp_ne_zero (y : EReal) : 1 + Ideal.exp (-y) ≠ 0 := by
  induction y with
  | bot => rw [EReal.neg_bot, Ideal.exp_top, EReal.add_top_of_ne_bot (show (1 : EReal) ≠ ⊥ from EReal.coe_ne_bot 1)]; exact EReal.top_ne_zero
  | top => rw [EReal.neg_top, Ideal.exp_bot, add_zero]; exact one_ne_zero
  | coe r =>
    rw [← EReal.coe_neg, Ideal.exp_coe, ← EReal.coe_one, ← EReal.coe_add]
    have : (0 : ℝ) < 1 + Real.exp (-r) := by positivity
    exact_mod_cast this.ne'

/-- SiLU as a product is SiLU as a quotient. -/
theorem silu_eq (y : EReal) : silu y = Ideal.div y (1 + Ideal.exp (-y)) := by
  unfold silu Ideal.logistic Ideal.div
  rw [if_neg (one_add_exp_ne_zero y), if_neg (one_add_exp_ne_zero y), one_mul]

/-! ## The sum -/

/-- A device's product at an entry is the sum over its 64 columns of x and rows of w. -/
theorem accV_apply (B : Blocks Ideal) (c : Dev nD) (r j : Fin 1024) :
    accV B c (ix2 r j) = ∑ k : Fin 64, (B.x c (ix2 r k) * B.w c (ix2 k j) : EReal) := by
  have e : accV B c = FloatOps.matmul (F := Ideal) (φ₁ := .bf16) (φ₂ := .bf16) (DotDims.plain 1024 64 1024) none (B.x c) (B.w c) (constant S1024x1024 .f32 0x00000000#32) := by
    show shapeCast S1024x1024 (matmul (F := Ideal) (φ₁ := .bf16) (φ₂ := .bf16) dot_S1024x64_S64x1024_S1024x1024_1_0_0_1_n_n none (shapeCast S1024x64 (B.x c) _)
      (shapeCast S64x1024 (B.w c) _) _) _ = _
    rw [shapeCast_self, shapeCast_self, shapeCast_self]
    rfl
  rw [e, Ideal.matmul_plain_apply]
  show Ideal.ofBits .f32 0x00000000#32 + _ = _
  rw [Ideal.ofBits_zero_f32, zero_add]

/-- A sum over planes and places is a sum over devices. -/
theorem sum_devices (f : Dev nD → EReal) : ∑ z : Fin 4, ∑ p : Fin 4, f (dv z.val p.val) = ∑ c : Fin 16, f c := by
  rw [← Fintype.sum_prod_type' (fun (z p : Fin 4) => f (dv z.val p.val))]
  refine Fintype.sum_equiv (finProdFinEquiv (m := 4) (n := 4)) _ _ fun t => congrArg f (Fin.ext ?_)
  show 4 * (t.1.val % 4) + t.2.val % 4 = t.2.val + 4 * t.1.val
  have h1 := t.1.isLt
  have h2 := t.2.isLt
  omega

/-- A sum over sixteen blocks of 64 is a sum over 1024. -/
theorem sum_blocks (f : Fin 1024 → EReal) :
    ∑ c : Fin 16, ∑ k : Fin 64, f ⟨64 * c.val + k.val, by have := c.isLt; have := k.isLt; omega⟩ = ∑ k : Fin 1024, f k := by
  rw [← Fintype.sum_prod_type' (fun (c : Fin 16) (k : Fin 64) => f ⟨64 * c.val + k.val, by have := c.isLt; have := k.isLt; omega⟩)]
  refine Fintype.sum_equiv (finProdFinEquiv (m := 16) (n := 64)) _ _ fun t => congrArg f (Fin.ext ?_)
  show 64 * t.1.val + t.2.val = t.2.val + 64 * t.1.val
  omega

/-- How x and w are cut over the devices. -/
theorem tiles_x : Layout.Tiles ⟨2, ![1024, 64]⟩ ⟨2, ![1024, 1024]⟩ 1 16 := by decide
theorem tiles_w : Layout.Tiles ⟨2, ![64, 1024]⟩ ⟨2, ![1024, 1024]⟩ 0 16 := by decide

section Whole

variable (B : Blocks Ideal) (X W : FVec Ideal ⟨2, ![1024, 1024]⟩ .bf16)
  (hx : ∀ c : Fin 16, B.x c = Layout.block ⟨2, ![1024, 64]⟩ ⟨2, ![1024, 1024]⟩ 1 16 c X tiles_x)
  (hw : ∀ c : Fin 16, B.w c = Layout.block ⟨2, ![64, 1024]⟩ ⟨2, ![1024, 1024]⟩ 0 16 c W tiles_w)

include hx hw

/-- The sum of the devices' products is the whole product. -/
theorem total_eq (r j : Fin 1024) : total B r.val j.val = ∑ k : Fin 1024, (X (ix2 r k) * W (ix2 k j) : EReal) := by
  have hat : at2 r.val j.val = ix2 r j := funext fun x => Fin.ext <| match x with
    | ⟨0, _⟩ => Nat.mod_eq_of_lt r.isLt
    | ⟨1, _⟩ => Nat.mod_eq_of_lt j.isLt
  unfold total
  rw [hat, sum_devices (fun c => accV B c (ix2 r j)), ← sum_blocks]
  refine Finset.sum_congr rfl fun c _ => (accV_apply B c r j).trans (Finset.sum_congr rfl fun k _ => ?_)
  rw [hx c, hw c]
  refine congrArg₂ (· * ·) (congrArg X ?_) (congrArg W ?_)
  · refine funext fun x => Fin.ext ?_
    match x with
    | ⟨0, _⟩ => rfl
    | ⟨1, _⟩ => show c.val * 64 + k.val = 64 * c.val + k.val; omega
  · refine funext fun x => Fin.ext ?_
    match x with
    | ⟨0, _⟩ => show c.val * 64 + k.val = 64 * c.val + k.val; omega
    | ⟨1, _⟩ => rfl

/-- Every device's output is the reference's result. -/
theorem outV_eq (c : Dev nD) : outV B c = Host.divf (Host.dotGeneral (F := Ideal) Cert.ReferenceIdeal.dot_S1024x1024_S1024x1024_S1024x1024_1_0_0_1_n_n none X W)
    (addf (broadcastInDim Cert.ReferenceIdeal.S1024x1024 ![] Cert.ReferenceIdeal.Gen.bcast_S_S1024x1024 (constant Cert.ReferenceIdeal.S_ .f32 0x3F800000#32))
      (Host.exp (Host.negf (Host.dotGeneral (F := Ideal) Cert.ReferenceIdeal.dot_S1024x1024_S1024x1024_S1024x1024_1_0_0_1_n_n none X W)))) := by
  funext i
  obtain ⟨r, j, rfl⟩ : ∃ r j : Fin 1024, i = ix2 r j := ⟨i 0, i 1, funext fun x => match x with
    | ⟨0, _⟩ => rfl
    | ⟨1, _⟩ => rfl⟩
  have hat : at2 r.val j.val = ix2 r j := funext fun x => Fin.ext <| match x with
    | ⟨0, _⟩ => Nat.mod_eq_of_lt r.isLt
    | ⟨1, _⟩ => Nat.mod_eq_of_lt j.isLt
  have hd : Host.dotGeneral (F := Ideal) Cert.ReferenceIdeal.dot_S1024x1024_S1024x1024_S1024x1024_1_0_0_1_n_n none X W (ix2 r j) = total B r.val j.val :=
    (dotGeneral_plain_apply none X W r j).trans (total_eq B X W hx hw r j).symm
  rw [← hat, outV_apply B c r.isLt j.isLt, silu_eq, hat, ← hd]
  show _ = Ideal.div _ (Ideal.ofBits .f32 0x3F800000#32 + Ideal.exp (-_))
  rw [Ideal.ofBits_one_f32]

end Whole

end Cert.KernelIdeal.Run

end
-- ==== Proof.KernelIdeal.Clip.lean ====
/-
# Where the clip changes nothing

The precondition `tame` bounds, on each device, the sum of the products of absolute values by 3.75 at every entry
(`tame_le`). Over sixteen devices every entry of the whole product then lies between −60 and 60 (`total_bounds`), the
clip inside the exponential is the identity there, and every device's output is also the clipped formula's result
(`outV_clipped`).
-/
module

public import proofs.«01_k».proof.Proof.KernelIdeal.Equation
public import proofs.«01_k».proof.Proof.Gen.ClippedIdeal.Run
public import proofs.«01_k».proof.Proof.Gen.Pre_tame_KernelIdeal
public import Idealize.ShloMosaic.Lib.ReduceAll

@[expose] public section

set_option maxRecDepth 16384

noncomputable section

namespace Cert.KernelIdeal.Run

open Cert.KernelIdeal Cert.KernelIdeal.Gen
open Idealize.ShloMosaic
open Idealize.ShloMosaic.TcCoe
open Idealize.ShloMosaic.ValueIdx Idealize.ShloMosaic.StackMember

/-! ## Bounds over the extended reals -/

theorem neg_le_zero {a : EReal} (h : 0 ≤ a) : -a ≤ 0 := EReal.neg_le_of_neg_le (neg_zero.trans_le h)

/-- The product of two absolute values is the absolute value of the product. -/
theorem abs_mul_abs (a b : EReal) : max a (-a) * max b (-b) = max (a * b) (-(a * b)) := by
  have key : ∀ a b : EReal, 0 ≤ a → 0 ≤ b → a * b = max (a * b) (-(a * b)) := fun a b ha hb =>
    (max_eq_left ((neg_le_zero (mul_nonneg ha hb)).trans (mul_nonneg ha hb))).symm
  have pos : ∀ a : EReal, 0 ≤ a → max a (-a) = a := fun a ha => max_eq_left ((neg_le_zero ha).trans ha)
  have neg : ∀ a : EReal, a ≤ 0 → max a (-a) = -a := fun a ha => max_eq_right (ha.trans (EReal.neg_nonneg.2 ha))
  rcases le_total 0 a with ha | ha <;> rcases le_total 0 b with hb | hb
  · rw [pos a ha, pos b hb]; exact key a b ha hb
  · rw [pos a ha, neg b hb, mul_neg]
    have := key a (-b) ha (EReal.neg_nonneg.2 hb)
    rw [mul_neg, neg_neg, max_comm] at this; exact this
  · rw [neg a ha, pos b hb, neg_mul]
    have := key (-a) b (EReal.neg_nonneg.2 ha) hb
    rw [neg_mul, neg_neg, max_comm] at this; exact this
  · rw [neg a ha, neg b hb, neg_mul, mul_neg, neg_neg]
    have := key (-a) (-b) (EReal.neg_nonneg.2 ha) (EReal.neg_nonneg.2 hb)
    rw [neg_mul, mul_neg, neg_neg] at this; exact this

/-- A sum of terms, each between −f and f, is between −Σ f and Σ f. -/
theorem sum_between {ι : Type} (s : Finset ι) (f g : ι → EReal) (h : ∀ i, -f i ≤ g i ∧ g i ≤ f i) (h0 : ∀ i, 0 ≤ f i) :
    -(∑ i ∈ s, f i) ≤ ∑ i ∈ s, g i ∧ ∑ i ∈ s, g i ≤ ∑ i ∈ s, f i := by
  classical
  refine ⟨?_, Finset.sum_le_sum fun i _ => (h i).2⟩
  induction s using Finset.induction_on with
  | empty => simp
  | insert i s hi ih =>
    rw [Finset.sum_insert hi, Finset.sum_insert hi]
    have hf : f i ≠ ⊥ := ne_of_gt (lt_of_lt_of_le EReal.bot_lt_zero (h0 i))
    have hs : (∑ j ∈ s, f j) ≠ ⊥ := ne_of_gt (lt_of_lt_of_le EReal.bot_lt_zero (Finset.sum_nonneg fun j _ => h0 j))
    rw [EReal.neg_add (Or.inl hf) (Or.inr hs)]
    exact add_le_add (h i).1 ih

/-- Sixteen terms of absolute value at most 3.75 add up to one of at most 60. -/
theorem sixteen_between (g : Fin 16 → EReal) (h : ∀ i, -((3.75 : ℝ) : EReal) ≤ g i ∧ g i ≤ ((3.75 : ℝ) : EReal)) :
    -((60 : ℝ) : EReal) ≤ ∑ i, g i ∧ ∑ i, g i ≤ ((60 : ℝ) : EReal) := by
  have e : ∑ _i : Fin 16, ((3.75 : ℝ) : EReal) = ((60 : ℝ) : EReal) := by
    rw [Finset.sum_const, Finset.card_univ, Fintype.card_fin, ← EReal.coe_nsmul]
    exact congrArg _ (by norm_num)
  rw [← e]
  exact sum_between Finset.univ _ g h fun _ => EReal.coe_nonneg.2 (by norm_num)

/-! ## The printed constants -/

theorem bits_bound : Ideal.ofBits .f32 0x40700000#32 = ((3.75 : ℝ) : EReal) := by
  simp [Ideal.ofBits, Ideal.ieee, -EReal.coe_mul]; norm_num
theorem bits_high : Ideal.ofBits .f32 0x42700000#32 = ((60 : ℝ) : EReal) := by
  simp [Ideal.ofBits, Ideal.ieee, -EReal.coe_mul]; norm_num
theorem bits_low : Ideal.ofBits .f32 0xC2700000#32 = -((60 : ℝ) : EReal) := by
  simp [Ideal.ofBits, Ideal.ieee, -EReal.coe_mul]; norm_num

/-! ## The precondition -/

/-- What `tame` says of a device's blocks, entry by entry. -/
theorem tame_le (x : FVec Ideal S1024x64 .bf16) (w : FVec Ideal S64x1024 .bf16)
    (h : Cert.Pre_tame_KernelIdeal.fn (F := Ideal) x w = fun _ => 1#1) (r j : Fin 1024) :
    ∑ k : Fin 64, (max (x (ix2 r k)) (-x (ix2 r k)) * max (w (ix2 k j)) (-w (ix2 k j)) : EReal) ≤ ((3.75 : ℝ) : EReal) := by
  have hs : Subsingleton Cert.Pre_tame_KernelIdeal.S_.Idx := ⟨fun a b => funext fun i => i.elim0⟩
  have h1 := Host.reduce_andi_all _ _ _ _ _ (congrFun h (fun i => i.elim0)) (ix2 r j)
  have h2 : Ideal.cmp .ole (Host.dotGeneral (F := Ideal) (DotDims.plain 1024 64 1024) none (Host.absf x) (Host.absf w) (ix2 r j))
      (Ideal.ofBits .f32 0x40700000#32) = 1#1 := h1
  rw [dotGeneral_plain_apply, bits_bound] at h2
  by_contra hn
  exact absurd ((congrArg BitVec.ofBool (decide_eq_false hn)).symm.trans h2) (by decide)

/-- A tame device's product is between −3.75 and 3.75. -/
theorem accV_bounds (B : Blocks Ideal) (c : Dev nD) (h : Cert.Pre_tame_KernelIdeal.fn (F := Ideal) (B.x c) (B.w c) = fun _ => 1#1) (r j : Fin 1024) :
    -((3.75 : ℝ) : EReal) ≤ accV B c (ix2 r j) ∧ accV B c (ix2 r j) ≤ ((3.75 : ℝ) : EReal) := by
  have hb := tame_le (B.x c) (B.w c) h r j
  have hs := sum_between Finset.univ
    (fun k : Fin 64 => (max (B.x c (ix2 r k)) (-B.x c (ix2 r k)) * max (B.w c (ix2 k j)) (-B.w c (ix2 k j)) : EReal))
    (fun k => (B.x c (ix2 r k) * B.w c (ix2 k j) : EReal))
    (fun k => by
      rw [abs_mul_abs]
      exact ⟨EReal.neg_le_of_neg_le (le_max_right _ _), le_max_left _ _⟩)
    (fun k => by
      rw [abs_mul_abs]
      exact (le_total 0 _).elim (fun h => h.trans (le_max_left _ _)) fun h => (EReal.neg_nonneg.2 h).trans (le_max_right _ _))
  rw [accV_apply]
  exact ⟨(EReal.neg_le_neg_iff.2 hb).trans hs.1, hs.2.trans hb⟩

/-- With every device tame the whole sum is between −60 and 60. -/
theorem total_bounds (B : Blocks Ideal) (h : ∀ c, Cert.Pre_tame_KernelIdeal.fn (F := Ideal) (B.x c) (B.w c) = fun _ => 1#1) (r j : Fin 1024) :
    -((60 : ℝ) : EReal) ≤ total B r.val j.val ∧ total B r.val j.val ≤ ((60 : ℝ) : EReal) := by
  have hat : at2 r.val j.val = ix2 r j := funext fun x => Fin.ext <| match x with
    | ⟨0, _⟩ => Nat.mod_eq_of_lt r.isLt
    | ⟨1, _⟩ => Nat.mod_eq_of_lt j.isLt
  unfold total
  rw [hat, sum_devices (fun c => accV B c (ix2 r j))]
  exact sixteen_between _ fun c => accV_bounds B c (h c) r j

/-! ## The clipped formula -/

/-- Every device's output is the clipped formula's result. -/
theorem outV_clipped (B : Blocks Ideal) (X W : FVec Ideal ⟨2, ![1024, 1024]⟩ .bf16)
    (hx : ∀ c : Fin 16, B.x c = Layout.block ⟨2, ![1024, 64]⟩ ⟨2, ![1024, 1024]⟩ 1 16 c X tiles_x)
    (hw : ∀ c : Fin 16, B.w c = Layout.block ⟨2, ![64, 1024]⟩ ⟨2, ![1024, 1024]⟩ 0 16 c W tiles_w)
    (h : ∀ c, Cert.Pre_tame_KernelIdeal.fn (F := Ideal) (B.x c) (B.w c) = fun _ => 1#1) (c : Dev nD) :
    outV B c = Host.divf (Host.dotGeneral (F := Ideal) Cert.ClippedIdeal.dot_S1024x1024_S1024x1024_S1024x1024_1_0_0_1_n_n none X W)
      (addf (broadcastInDim Cert.ClippedIdeal.S1024x1024 ![] Cert.ClippedIdeal.Gen.bcast_S_S1024x1024 (constant Cert.ClippedIdeal.S_ .f32 0x3F800000#32))
        (Host.exp (Host.negf (minimumf
          (broadcastInDim Cert.ClippedIdeal.S1024x1024 ![] Cert.ClippedIdeal.Gen.bcast_S_S1024x1024 (id (constant Cert.ClippedIdeal.S_ .f32 0x42700000#32)))
          (maximumf (broadcastInDim Cert.ClippedIdeal.S1024x1024 ![] Cert.ClippedIdeal.Gen.bcast_S_S1024x1024 (id (constant Cert.ClippedIdeal.S_ .f32 0xC2700000#32)))
            (Host.dotGeneral (F := Ideal) Cert.ClippedIdeal.dot_S1024x1024_S1024x1024_S1024x1024_1_0_0_1_n_n none X W)))))) := by
  have hc : minimumf (F := Ideal)
      (broadcastInDim Cert.ClippedIdeal.S1024x1024 ![] Cert.ClippedIdeal.Gen.bcast_S_S1024x1024 (id (constant Cert.ClippedIdeal.S_ .f32 0x42700000#32)))
      (maximumf (broadcastInDim Cert.ClippedIdeal.S1024x1024 ![] Cert.ClippedIdeal.Gen.bcast_S_S1024x1024 (id (constant Cert.ClippedIdeal.S_ .f32 0xC2700000#32)))
        (Host.dotGeneral (F := Ideal) Cert.ClippedIdeal.dot_S1024x1024_S1024x1024_S1024x1024_1_0_0_1_n_n none X W))
      = Host.dotGeneral (F := Ideal) Cert.ClippedIdeal.dot_S1024x1024_S1024x1024_S1024x1024_1_0_0_1_n_n none X W := by
    funext i
    obtain ⟨r, j, rfl⟩ : ∃ r j : Fin 1024, i = ix2 r j := ⟨i 0, i 1, funext fun x => match x with
      | ⟨0, _⟩ => rfl
      | ⟨1, _⟩ => rfl⟩
    have hd : Host.dotGeneral (F := Ideal) Cert.ClippedIdeal.dot_S1024x1024_S1024x1024_S1024x1024_1_0_0_1_n_n none X W (ix2 r j) = total B r.val j.val :=
      (dotGeneral_plain_apply none X W r j).trans (total_eq B X W hx hw r j).symm
    have hb := total_bounds B h r j
    rw [← hd] at hb
    show min (Ideal.ofBits .f32 0x42700000#32) (max (Ideal.ofBits .f32 0xC2700000#32) _) = _
    rw [bits_high, bits_low, max_eq_right hb.1, min_eq_right hb.2]
  rw [hc]
  exact outV_eq B X W hx hw c

end Cert.KernelIdeal.Run

end
-- ==== Proof.lean ====
/-
# The proof of the claims

The kernel ends with its arguments unchanged and every semaphore at zero, at the machine's numbers and at the ideal
ones (`frame_kernel`, `frame_ideal`), and so do the reference and the clipped formula (`frame_reference`,
`frame_clipped`); the idealization changed no operation, so that `preserves` has nothing to prove. Over the extended
reals every device ends with the reference's result (`same_value`) and, where the blocks are tame, with the clipped
formula's (`same_clipped`). `claim` puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.KernelIdeal.Same
public import proofs.«01_k».proof.Proof.KernelIdeal.Equation
public import proofs.«01_k».proof.Proof.KernelIdeal.Clip
public import proofs.«01_k».proof.Proof.Gen.Pre_tame_KernelIdeal
public import proofs.«01_k».proof.Proof.Gen.Pre_tame_ClippedIdeal
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ => Cert.KernelIdeal.Run.kernel_run m g

theorem frame_ideal : Cert.quiescent_KernelIdeal := fun m g _ =>
  (θ_run Cert.KernelIdeal.defs _ _).mono (fun _ h => ⟨fun c => (h.1 c).2, h.2⟩) (Cert.KernelIdeal.Run.run_result m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- From memories whose blocks are those of the reference's matrices, every device of the kernel ends with the
    reference's result. -/
theorem same_value : Cert.algebraic_KernelIdeal_ReferenceIdeal := fun m g m' g' _ hb =>
  ⟨_, (θ_run Cert.KernelIdeal.defs _ _).mono (fun _ h c => ⟨(h.1 c).1.trans (Cert.KernelIdeal.Run.outV_eq (Cert.KernelIdeal.Run.blocks m) _ _
      (fun c => (Cert.KernelIdeal.Run.blocks_x m c).trans (hb c).1) (fun c => (Cert.KernelIdeal.Run.blocks_w m c).trans (hb c).2) c), (h.1 c).2⟩)
      (Cert.KernelIdeal.Run.run_result m g),
    (θ_run Cert.ReferenceIdeal.defs _ _).mono (fun _ h => h 0) (Cert.ReferenceIdeal.Value.run m' g')⟩

theorem frame_clipped : Cert.quiescent_ClippedIdeal := fun m g _ =>
  (θ_run Cert.ClippedIdeal.defs _ _).mono (fun r h => ⟨fun c => (h c).2, sem_eq_zero_of_no_sems (by decide) r.2⟩)
    (Cert.ClippedIdeal.Value.run m g)

/-- From tame blocks of the clipped formula's matrices, every device of the kernel ends with that formula's result. -/
theorem same_clipped : Cert.algebraic_KernelIdeal_ClippedIdeal_pre_tame_KernelIdeal := fun m g m' g' hp hb =>
  ⟨_, (θ_run Cert.KernelIdeal.defs _ _).mono (fun _ h c => ⟨(h.1 c).1.trans (Cert.KernelIdeal.Run.outV_clipped (Cert.KernelIdeal.Run.blocks m) _ _
      (fun c => (Cert.KernelIdeal.Run.blocks_x m c).trans (hb c).1) (fun c => (Cert.KernelIdeal.Run.blocks_w m c).trans (hb c).2)
      (fun c => by
        rw [Cert.KernelIdeal.Run.blocks_x m c, Cert.KernelIdeal.Run.blocks_w m c]
        exact hp c) c), (h.1 c).2⟩)
      (Cert.KernelIdeal.Run.run_result m g),
    (θ_run Cert.ClippedIdeal.defs _ _).mono (fun _ h => h 0) (Cert.ClippedIdeal.Value.run m' g')⟩

theorem claim : Cert.Claim := ⟨Cert.Kernel.Gen.facts, Cert.KernelIdeal.Gen.facts, Cert.ReferenceIdeal.Gen.facts,
  Cert.ClippedIdeal.Gen.facts, Cert.Pre_tame_KernelIdeal.Gen.facts, Cert.Pre_tame_ClippedIdeal.Gen.facts,
  frame_kernel, frame_ideal, fun m g _ => frame_ideal m g trivial, frame_reference, frame_clipped,
  fun m g _ => frame_clipped m g trivial, trivial, same_value, same_clipped⟩

end Cert.Proof

end
